-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_without_padding [hPre_boxes_without_padding : Cert.Pre_boxes_without_padding.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_without_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_without_padding [hPre_boxes_without_padding : Cert.Pre_boxes_without_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_without_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_boxes_without_padding [hKernelIdeal : Cert.KernelIdeal.Facts] [hPre_boxes_without_padding : Cert.Pre_boxes_without_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_without_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_boxes_without_padding [hReferenceIdeal : Cert.ReferenceIdeal.Facts] [hPre_boxes_without_padding : Cert.Pre_boxes_without_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_without_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_boxes_without_padding [hKernelIdeal : Cert.KernelIdeal.Facts] [hReferenceIdeal : Cert.ReferenceIdeal.Facts] [hPre_boxes_without_padding : Cert.Pre_boxes_without_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_without_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_v352) = v1 c
          ∧ r.2.mem ((c.tc : Thread Cert.ReferenceIdeal.nD Cert.ReferenceIdeal.τ).loc Cert.ReferenceIdeal.main_v354) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_boxes_without_padding : Cert.Pre_boxes_without_padding.Facts),
    quiescent_Kernel (hKernel := hKernel)
    ∧ quiescent_KernelIdeal (hKernelIdeal := hKernelIdeal)
    ∧ quiescent_KernelIdeal_pre_boxes_without_padding (hKernelIdeal := hKernelIdeal) (hPre_boxes_without_padding := hPre_boxes_without_padding)
    ∧ quiescent_ReferenceIdeal (hReferenceIdeal := hReferenceIdeal)
    ∧ quiescent_ReferenceIdeal_pre_boxes_without_padding (hReferenceIdeal := hReferenceIdeal) (hPre_boxes_without_padding := hPre_boxes_without_padding)
    ∧ preserves_Kernel_KernelIdeal
    ∧ algebraic_KernelIdeal_ReferenceIdeal_pre_boxes_without_padding (hKernelIdeal := hKernelIdeal) (hReferenceIdeal := hReferenceIdeal) (hPre_boxes_without_padding := hPre_boxes_without_padding)
-- ==== Pre_boxes_without_padding.lean ====
abbrev S16x8400x80 : Shape := ⟨3, ![16, 8400, 80]⟩
abbrev S16x8400x4 : Shape := ⟨3, ![16, 8400, 4]⟩
abbrev S8400x2 : Shape := ⟨2, ![8400, 2]⟩
abbrev S16x64x1 : Shape := ⟨3, ![16, 64, 1]⟩
abbrev S16x64x4 : Shape := ⟨3, ![16, 64, 4]⟩
abbrev S_ : Shape := ⟨0, ![]⟩

class Facts : Prop where
  bcast_S_S16x8400x80 : S_.BroadcastsInDim S16x8400x80 (![] : Fin 0 → Fin S16x8400x80.rank)
  reducesTo_S16x8400x80_S_d0_1_2 : S16x8400x80.ReducesTo [0, 1, 2] S_
  h_S_ : 0 < S_.numel
  bcast_S_S16x64x4 : S_.BroadcastsInDim S16x64x4 (![] : Fin 0 → Fin S16x64x4.rank)
  reducesTo_S16x64x4_S_d0_1_2 : S16x64x4.ReducesTo [0, 1, 2] S_
  bcast_S_S16x64x1 : S_.BroadcastsInDim S16x64x1 (![] : Fin 0 → Fin S16x64x1.rank)
  reducesTo_S16x64x1_S_d0_1_2 : S16x64x1.ReducesTo [0, 1, 2] S_

variable [Facts]

def fn_part1 {F : FTy → Type} [FloatOps F] (main_arg5 : FVec F S16x64x1 .f32) (main_v14 : IVec S_ 1) (main_cst_6 : FVec F S_ .f32) : IVec S_ 1 :=
  let main_v15 : FVec F S16x64x1 .f32 := broadcastInDim S16x64x1 ![] bcast_S_S16x64x1 main_cst_6
  let main_v16 : IVec S16x64x1 1 := cmpf .oeq main_arg5 main_v15
  let main_c_7 : IVec S_ 1 := constantI S_ 1 1#1
  let main_v17 : IVec S_ 1 := (fun x v => Host.reduce IntOp.andi x v reducesTo_S16x64x1_S_d0_1_2 h_S_) main_v16 main_c_7
  let main_v18 : IVec S_ 1 := andi main_v14 main_v17
  main_v18

def fn {F : FTy → Type} [FloatOps F] (main_arg0 : FVec F S16x8400x80 .f32) (main_arg1 : FVec F S16x8400x4 .f32) (main_arg2 : FVec F S8400x2 .f32) (main_arg3 : IVec S16x64x1 32) (main_arg4 : FVec F S16x64x4 .f32) (main_arg5 : FVec F S16x64x1 .f32) : IVec S_ 1 :=
  let main_cst : FVec F S_ .f32 := constant S_ .f32 0x00000000#32
  let main_v0 : FVec F S16x8400x80 .f32 := broadcastInDim S16x8400x80 ![] bcast_S_S16x8400x80 main_cst
  let main_v1 : IVec S16x8400x80 1 := cmpf .oge main_arg0 main_v0
  let main_c : IVec S_ 1 := constantI S_ 1 1#1
  let main_v2 : IVec S_ 1 := (fun x v => Host.reduce IntOp.andi x v reducesTo_S16x8400x80_S_d0_1_2 h_S_) main_v1 main_c
  let main_cst_0 : FVec F S_ .f32 := constant S_ .f32 0x7F800000#32
  let main_v3 : FVec F S16x64x4 .f32 := broadcastInDim S16x64x4 ![] bcast_S_S16x64x4 main_cst_0
  let main_v4 : IVec S16x64x4 1 := cmpf .olt main_arg4 main_v3
  let main_c_1 : IVec S_ 1 := constantI S_ 1 1#1
  let main_v5 : IVec S_ 1 := (fun x v => Host.reduce IntOp.andi x v reducesTo_S16x64x4_S_d0_1_2 h_S_) main_v4 main_c_1
  let main_v6 : IVec S_ 1 := andi main_v2 main_v5
  let main_c_2 : IVec S_ 32 := constantI S_ 32 0#32
  let main_v7 : IVec S16x64x1 32 := broadcastInDim S16x64x1 ![] bcast_S_S16x64x1 main_c_2
  let main_v8 : IVec S16x64x1 1 := cmpi .sge main_arg3 main_v7
  let main_c_3 : IVec S_ 1 := constantI S_ 1 1#1
  let main_v9 : IVec S_ 1 := (fun x v => Host.reduce IntOp.andi x v reducesTo_S16x64x1_S_d0_1_2 h_S_) main_v8 main_c_3
  let main_v10 : IVec S_ 1 := andi main_v6 main_v9
  let main_c_4 : IVec S_ 32 := constantI S_ 32 80#32
  let main_v11 : IVec S16x64x1 32 := broadcastInDim S16x64x1 ![] bcast_S_S16x64x1 main_c_4
  let main_v12 : IVec S16x64x1 1 := cmpi .slt main_arg3 main_v11
  let main_c_5 : IVec S_ 1 := constantI S_ 1 1#1
  let main_v13 : IVec S_ 1 := (fun x v => Host.reduce IntOp.andi x v reducesTo_S16x64x1_S_d0_1_2 h_S_) main_v12 main_c_5
  let main_v14 : IVec S_ 1 := andi main_v10 main_v13
  let main_cst_6 : FVec F S_ .f32 := constant S_ .f32 0x3F800000#32
  fn_part1 (F := F) main_arg5 main_v14 main_cst_6
-- ==== Kernel.lean ====
abbrev S16x8400x80 : Shape := ⟨3, ![16, 8400, 80]⟩
abbrev S16x8400x4 : Shape := ⟨3, ![16, 8400, 4]⟩
abbrev S8400x2 : Shape := ⟨2, ![8400, 2]⟩
abbrev S16x64x1 : Shape := ⟨3, ![16, 64, 1]⟩
abbrev S16x64x4 : Shape := ⟨3, ![16, 64, 4]⟩
abbrev S2x8400 : Shape := ⟨2, ![2, 8400]⟩
abbrev S16x80x8400 : Shape := ⟨3, ![16, 80, 8400]⟩
abbrev S16x4x8400 : Shape := ⟨3, ![16, 4, 8400]⟩
abbrev S16x1x8400 : Shape := ⟨3, ![16, 1, 8400]⟩
abbrev S1x80x8400 : Shape := ⟨3, ![1, 80, 8400]⟩
abbrev S1x4x8400 : Shape := ⟨3, ![1, 4, 8400]⟩
abbrev S1x64x1 : Shape := ⟨3, ![1, 64, 1]⟩
abbrev S1x64x4 : Shape := ⟨3, ![1, 64, 4]⟩
abbrev S1x1x8400 : Shape := ⟨3, ![1, 1, 8400]⟩
abbrev S1x8400 : Shape := ⟨2, ![1, 8400]⟩
abbrev S64x4 : Shape := ⟨2, ![64, 4]⟩
abbrev S64x1 : Shape := ⟨2, ![64, 1]⟩
abbrev S4x8400 : Shape := ⟨2, ![4, 8400]⟩
abbrev S64x8400 : Shape := ⟨2, ![64, 8400]⟩
abbrev S64 : Shape := ⟨1, ![64]⟩
abbrev S64x80 : Shape := ⟨2, ![64, 80]⟩
abbrev S80x8400 : Shape := ⟨2, ![80, 8400]⟩
abbrev S8400 : Shape := ⟨1, ![8400]⟩
abbrev S4x64 : Shape := ⟨2, ![4, 64]⟩
abbrev S4x128 : Shape := ⟨2, ![4, 128]⟩
abbrev S128x8400 : Shape := ⟨2, ![128, 8400]⟩
abbrev S80x64 : Shape := ⟨2, ![80, 64]⟩
abbrev S80x128 : Shape := ⟨2, ![80, 128]⟩
abbrev S16x8400 : Shape := ⟨2, ![16, 8400]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S16x8400x80, .f32⟩
  | .hbm, ⟨1, _⟩ => ⟨S16x8400x4, .f32⟩
  | .hbm, ⟨2, _⟩ => ⟨S8400x2, .f32⟩
  | .hbm, ⟨3, _⟩ => ⟨S16x64x1, .i32⟩
  | .hbm, ⟨4, _⟩ => ⟨S16x64x4, .f32⟩
  | .hbm, ⟨5, _⟩ => ⟨S16x64x1, .f32⟩
  | .hbm, ⟨6, _⟩ => ⟨S2x8400, .f32⟩
  | .hbm, ⟨7, _⟩ => ⟨S16x80x8400, .f32⟩
  | .hbm, ⟨8, _⟩ => ⟨S16x4x8400, .f32⟩
  | .hbm, ⟨9, _⟩ => ⟨S16x4x8400, .f32⟩
  | .hbm, ⟨10, _⟩ => ⟨S16x80x8400, .f32⟩
  | .hbm, ⟨11, _⟩ => ⟨S16x1x8400, .f32⟩
  | .hbm, ⟨12, _⟩ => ⟨S16x8400x4, .f32⟩
  | .hbm, ⟨13, _⟩ => ⟨S16x8400x80, .f32⟩
  | .hbm, ⟨14, _⟩ => ⟨S16x8400, .f32⟩
  | .hbm, ⟨15, _⟩ => ⟨S_, .f32⟩
  | .hbm, ⟨16, _⟩ => ⟨S16x8400, .f32⟩
  | .hbm, ⟨17, _⟩ => ⟨S16x8400, .i1⟩
  | .local _ .vmem, ⟨0, _⟩ => ⟨S1x80x8400, .f32⟩
  | .local _ .vmem, ⟨1, _⟩ => ⟨S1x80x8400, .f32⟩
  | .local _ .vmem, ⟨2, _⟩ => ⟨S1x4x8400, .f32⟩
  | .local _ .vmem, ⟨3, _⟩ => ⟨S1x4x8400, .f32⟩
  | .local _ .vmem, ⟨4, _⟩ => ⟨S2x8400, .f32⟩
  | .local _ .vmem, ⟨5, _⟩ => ⟨S1x64x1, .i32⟩
  | .local _ .vmem, ⟨6, _⟩ => ⟨S1x64x1, .i32⟩
  | .local _ .vmem, ⟨7, _⟩ => ⟨S1x64x4, .f32⟩
  | .local _ .vmem, ⟨8, _⟩ => ⟨S1x64x4, .f32⟩
  | .local _ .vmem, ⟨9, _⟩ => ⟨S1x4x8400, .f32⟩
  | .local _ .vmem, ⟨10, _⟩ => ⟨S1x4x8400, .f32⟩
  | .local _ .vmem, ⟨11, _⟩ => ⟨S1x80x8400, .f32⟩
  | .local _ .vmem, ⟨12, _⟩ => ⟨S1x80x8400, .f32⟩
  | .local _ .vmem, ⟨13, _⟩ => ⟨S1x1x8400, .f32⟩
  | .local _ .vmem, ⟨14, _⟩ => ⟨S1x1x8400, .f32⟩
  | _, _ => ⟨S16x8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x8400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x80x8400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x8400x80 : Shape := ⟨3, ![16, 8400, 80]⟩
abbrev S16x8400x4 : Shape := ⟨3, ![16, 8400, 4]⟩
abbrev S8400x2 : Shape := ⟨2, ![8400, 2]⟩
abbrev S16x64x1 : Shape := ⟨3, ![16, 64, 1]⟩
abbrev S16x64x4 : Shape := ⟨3, ![16, 64, 4]⟩
abbrev S16x64 : Shape := ⟨2, ![16, 64]⟩
abbrev S_ : Shape := ⟨0, ![]⟩
abbrev S16x64x2 : Shape := ⟨3, ![16, 64, 2]⟩
abbrev S1x1x8400x2 : Shape := ⟨4, ![1, 1, 8400, 2]⟩
abbrev S16x64x1x2 : Shape := ⟨4, ![16, 64, 1, 2]⟩
abbrev S16x64x8400x2 : Shape := ⟨4, ![16, 64, 8400, 2]⟩
abbrev S16x64x8400x4 : Shape := ⟨4, ![16, 64, 8400, 4]⟩
abbrev S16x64x8400 : Shape := ⟨3, ![16, 64, 8400]⟩
abbrev S16 : Shape := ⟨1, ![16]⟩
abbrev S16x1 : Shape := ⟨2, ![16, 1]⟩
abbrev S16x64x1x4 : Shape := ⟨4, ![16, 64, 1, 4]⟩
abbrev S16x1x8400x4 : Shape := ⟨4, ![16, 1, 8400, 4]⟩
abbrev S16x64x1x1 : Shape := ⟨4, ![16, 64, 1, 1]⟩
abbrev S16x1x8400x1 : Shape := ⟨4, ![16, 1, 8400, 1]⟩
abbrev S16x64x8400x1 : Shape := ⟨4, ![16, 64, 8400, 1]⟩
abbrev S16x64x10 : Shape := ⟨3, ![16, 64, 10]⟩
abbrev S16x64x10x1 : Shape := ⟨4, ![16, 64, 10, 1]⟩
abbrev S8400 : Shape := ⟨1, ![8400]⟩
abbrev S1x1x1x8400 : Shape := ⟨4, ![1, 1, 1, 8400]⟩
abbrev S16x64x10x8400 : Shape := ⟨4, ![16, 64, 10, 8400]⟩
abbrev S16x8400 : Shape := ⟨2, ![16, 8400]⟩
abbrev S64 : Shape := ⟨1, ![64]⟩
abbrev S1x64x1 : Shape := ⟨3, ![1, 64, 1]⟩
abbrev S16x8400x64 : Shape := ⟨3, ![16, 8400, 64]⟩
abbrev S16x8400x1 : Shape := ⟨3, ![16, 8400, 1]⟩
abbrev S16x1x8400 : Shape := ⟨3, ![16, 1, 8400]⟩
abbrev S1x1x80 : Shape := ⟨3, ![1, 1, 80]⟩

abbrev nBuf : Space → Nat
  | .hbm => 481
  | .vmem => 0
  | .smem => 0
  | _ => 0

abbrev hbmTy0_0 (i : Nat) : BufTy := match i % 128 with
  | 0 => ⟨S16x8400x80, .f32⟩
  | 1 => ⟨S16x8400x4, .f32⟩
  | 2 => ⟨S8400x2, .f32⟩
  | 3 => ⟨S16x64x1, .i32⟩
  | 4 => ⟨S16x64x4, .f32⟩
  | 5 => ⟨S16x64x1, .f32⟩
  | 6 => ⟨S16x64, .i32⟩
  | 7 => ⟨S_, .f32⟩
  | 8 => ⟨S16x64x1, .f32⟩
  | 9 => ⟨S16x64x1, .i1⟩
  | 10 => ⟨S16x64x2, .f32⟩
  | 11 => ⟨S16x64x2, .f32⟩
  | 12 => ⟨S1x1x8400x2, .f32⟩
  | 13 => ⟨S16x64x1x2, .f32⟩
  | 14 => ⟨S16x64x8400x2, .f32⟩
  | 15 => ⟨S16x64x8400x2, .f32⟩
  | 16 => ⟨S16x64x8400x2, .f32⟩
  | 17 => ⟨S16x64x1x2, .f32⟩
  | 18 => ⟨S1x1x8400x2, .f32⟩
  | 19 => ⟨S16x64x8400x2, .f32⟩
  | 20 => ⟨S16x64x8400x2, .f32⟩
  | 21 => ⟨S16x64x8400x2, .f32⟩
  | 22 => ⟨S16x64x8400x4, .f32⟩
  | 23 => ⟨S_, .f32⟩
  | 24 => ⟨S16x64x8400, .f32⟩
  | 25 => ⟨S_, .f32⟩
  | 26 => ⟨S16x64x8400, .f32⟩
  | 27 => ⟨S16x64x8400, .i1⟩
  | 28 => ⟨S16x64x8400, .i1⟩
  | 29 => ⟨S16x64x8400, .i1⟩
  | 30 => ⟨S16, .i32⟩
  | 31 => ⟨S16x1, .i32⟩
  | 32 => ⟨S_, .i32⟩
  | 33 => ⟨S16x1, .i32⟩
  | 34 => ⟨S16x1, .i1⟩
  | 35 => ⟨S_, .i32⟩
  | 36 => ⟨S16x1, .i32⟩
  | 37 => ⟨S16x1, .i32⟩
  | 38 => ⟨S16x1, .i32⟩
  | 39 => ⟨S_, .i32⟩
  | 40 => ⟨S16x64, .i32⟩
  | 41 => ⟨S16x64, .i1⟩
  | 42 => ⟨S_, .i32⟩
  | 43 => ⟨S16x64, .i32⟩
  | 44 => ⟨S16x64, .i32⟩
  | 45 => ⟨S16x64, .i32⟩
  | 46 => ⟨S16x64, .i32⟩
  | 47 => ⟨S16x64x1, .i32⟩
  | 48 => ⟨S16x64x1, .i32⟩
  | 49 => ⟨S16x64x2, .i32⟩
  | 50 => ⟨S16x64x8400, .f32⟩
  | 51 => ⟨S16x64x1x4, .f32⟩
  | 52 => ⟨S16x1x8400x4, .f32⟩
  | 53 => ⟨S16x64x1x1, .f32⟩
  | 54 => ⟨S16x64x1x1, .f32⟩
  | 55 => ⟨S16x64x1x1, .f32⟩
  | 56 => ⟨S16x64x1x1, .f32⟩
  | 57 => ⟨S16x1x8400x1, .f32⟩
  | 58 => ⟨S16x1x8400x1, .f32⟩
  | 59 => ⟨S16x1x8400x1, .f32⟩
  | 60 => ⟨S16x1x8400x1, .f32⟩
  | 61 => ⟨S16x64x1x1, .f32⟩
  | 62 => ⟨S16x64x1x1, .f32⟩
  | 63 => ⟨S_, .f32⟩
  | 64 => ⟨S16x64x1x1, .f32⟩
  | 65 => ⟨S16x64x1x1, .f32⟩
  | 66 => ⟨S16x1x8400x1, .f32⟩
  | 67 => ⟨S16x1x8400x1, .f32⟩
  | 68 => ⟨S_, .f32⟩
  | 69 => ⟨S16x1x8400x1, .f32⟩
  | 70 => ⟨S16x1x8400x1, .f32⟩
  | 71 => ⟨S16x64x8400x1, .f32⟩
  | 72 => ⟨S16x64x8400x1, .f32⟩
  | 73 => ⟨S16x64x8400x1, .f32⟩
  | 74 => ⟨S16x64x8400x1, .f32⟩
  | 75 => ⟨S16x64x8400x1, .f32⟩
  | 76 => ⟨S16x64x8400x1, .f32⟩
  | 77 => ⟨S16x64x8400x1, .f32⟩
  | 78 => ⟨S_, .f32⟩
  | 79 => ⟨S_, .f32⟩
  | 80 => ⟨S16x64x8400x1, .f32⟩
  | 81 => ⟨S16x64x8400x1, .f32⟩
  | 82 => ⟨S16x64x8400x1, .f32⟩
  | 83 => ⟨S16x64x8400x1, .f32⟩
  | 84 => ⟨S16x64x8400x1, .f32⟩
  | 85 => ⟨S16x64x8400x1, .f32⟩
  | 86 => ⟨S16x64x8400x1, .f32⟩
  | 87 => ⟨S16x64x8400x1, .f32⟩
  | 88 => ⟨S16x64x8400x1, .f32⟩
  | 89 => ⟨S_, .f32⟩
  | 90 => ⟨S_, .f32⟩
  | 91 => ⟨S16x64x8400x1, .f32⟩
  | 92 => ⟨S16x64x8400x1, .f32⟩
  | 93 => ⟨S16x64x8400x1, .f32⟩
  | 94 => ⟨S16x64x1x1, .f32⟩
  | 95 => ⟨S16x1x8400x1, .f32⟩
  | 96 => ⟨S16x64x8400x1, .f32⟩
  | 97 => ⟨S16x64x8400x1, .f32⟩
  | 98 => ⟨S16x64x8400x1, .f32⟩
  | 99 => ⟨S16x64x8400x1, .f32⟩
  | 100 => ⟨S_, .f32⟩
  | 101 => ⟨S16x64x8400x1, .f32⟩
  | 102 => ⟨S16x64x8400x1, .f32⟩
  | 103 => ⟨S16x64x8400x1, .f32⟩
  | 104 => ⟨S16x64x8400x1, .f32⟩
  | 105 => ⟨S16x64x8400x1, .f32⟩
  | 106 => ⟨S16x64x8400x1, .f32⟩
  | 107 => ⟨S16x64x8400x1, .f32⟩
  | 108 => ⟨S16x64x8400x1, .f32⟩
  | 109 => ⟨S16x64x8400x1, .f32⟩
  | 110 => ⟨S16x64x8400x1, .f32⟩
  | 111 => ⟨S16x64x8400x1, .f32⟩
  | 112 => ⟨S16x64x8400x1, .f32⟩
  | 113 => ⟨S16x64x8400x1, .f32⟩
  | 114 => ⟨S16x64x8400x1, .f32⟩
  | 115 => ⟨S16x64x8400x1, .f32⟩
  | 116 => ⟨S16x64x8400x1, .f32⟩
  | 117 => ⟨S16x64x8400x1, .f32⟩
  | 118 => ⟨S16x64x8400x1, .f32⟩
  | 119 => ⟨S16x64x8400x1, .f32⟩
  | 120 => ⟨S16x64x8400x1, .f32⟩
  | 121 => ⟨S_, .f32⟩
  | 122 => ⟨S16x64x8400x1, .f32⟩
  | 123 => ⟨S16x64x8400x1, .f32⟩
  | 124 => ⟨S16x1x8400x1, .f32⟩
  | 125 => ⟨S16x64x8400x1, .f32⟩
  | 126 => ⟨S16x64x8400x1, .f32⟩
  | 127 => ⟨S16x64x8400x1, .f32⟩
  | _ => ⟨S16x8400x80, .f32⟩

abbrev hbmTy0_1 (i : Nat) : BufTy := match i % 128 with
  | 0 => ⟨S16x64x8400x1, .f32⟩
  | 1 => ⟨S16x64x8400x1, .f32⟩
  | 2 => ⟨S16x64x8400x1, .f32⟩
  | 3 => ⟨S16x1x8400x1, .f32⟩
  | 4 => ⟨S16x64x8400x1, .f32⟩
  | 5 => ⟨S16x64x8400x1, .f32⟩
  | 6 => ⟨S16x64x8400x1, .f32⟩
  | 7 => ⟨S16x64x8400x1, .f32⟩
  | 8 => ⟨S16x64x8400x1, .f32⟩
  | 9 => ⟨S16x64x8400x1, .f32⟩
  | 10 => ⟨S16x64x8400x1, .f32⟩
  | 11 => ⟨S_, .f32⟩
  | 12 => ⟨S16x64x8400x1, .f32⟩
  | 13 => ⟨S16x64x8400x1, .f32⟩
  | 14 => ⟨S16x1x8400x1, .f32⟩
  | 15 => ⟨S_, .f32⟩
  | 16 => ⟨S16x1x8400x1, .f32⟩
  | 17 => ⟨S16x1x8400x1, .i1⟩
  | 18 => ⟨S_, .f32⟩
  | 19 => ⟨S16x1x8400x1, .f32⟩
  | 20 => ⟨S16x1x8400x1, .f32⟩
  | 21 => ⟨S16x1x8400x1, .f32⟩
  | 22 => ⟨S_, .f32⟩
  | 23 => ⟨S16x1x8400x1, .f32⟩
  | 24 => ⟨S16x1x8400x1, .i1⟩
  | 25 => ⟨S_, .f32⟩
  | 26 => ⟨S16x1x8400x1, .f32⟩
  | 27 => ⟨S16x1x8400x1, .f32⟩
  | 28 => ⟨S_, .f32⟩
  | 29 => ⟨S16x1x8400x1, .f32⟩
  | 30 => ⟨S16x1x8400x1, .f32⟩
  | 31 => ⟨S16x1x8400x1, .f32⟩
  | 32 => ⟨S16x1x8400x1, .f32⟩
  | 33 => ⟨S_, .f32⟩
  | 34 => ⟨S16x1x8400x1, .f32⟩
  | 35 => ⟨S16x1x8400x1, .f32⟩
  | 36 => ⟨S_, .f32⟩
  | 37 => ⟨S16x1x8400x1, .f32⟩
  | 38 => ⟨S16x1x8400x1, .f32⟩
  | 39 => ⟨S16x1x8400x1, .f32⟩
  | 40 => ⟨S16x1x8400x1, .f32⟩
  | 41 => ⟨S_, .f32⟩
  | 42 => ⟨S16x1x8400x1, .f32⟩
  | 43 => ⟨S16x1x8400x1, .f32⟩
  | 44 => ⟨S16x1x8400x1, .f32⟩
  | 45 => ⟨S16x1x8400x1, .f32⟩
  | 46 => ⟨S16x1x8400x1, .f32⟩
  | 47 => ⟨S16x1x8400x1, .f32⟩
  | 48 => ⟨S_, .f32⟩
  | 49 => ⟨S16x1x8400x1, .f32⟩
  | 50 => ⟨S16x1x8400x1, .f32⟩
  | 51 => ⟨S16x1x8400x1, .f32⟩
  | 52 => ⟨S16x1x8400x1, .f32⟩
  | 53 => ⟨S16x1x8400x1, .f32⟩
  | 54 => ⟨S16x1x8400x1, .f32⟩
  | 55 => ⟨S16x1x8400x1, .f32⟩
  | 56 => ⟨S_, .f32⟩
  | 57 => ⟨S16x1x8400x1, .f32⟩
  | 58 => ⟨S16x1x8400x1, .f32⟩
  | 59 => ⟨S16x1x8400x1, .f32⟩
  | 60 => ⟨S16x1x8400x1, .f32⟩
  | 61 => ⟨S16x1x8400x1, .f32⟩
  | 62 => ⟨S16x1x8400x1, .f32⟩
  | 63 => ⟨S16x1x8400x1, .f32⟩
  | 64 => ⟨S_, .f32⟩
  | 65 => ⟨S16x1x8400x1, .f32⟩
  | 66 => ⟨S16x1x8400x1, .f32⟩
  | 67 => ⟨S16x1x8400x1, .f32⟩
  | 68 => ⟨S16x1x8400x1, .f32⟩
  | 69 => ⟨S16x1x8400x1, .f32⟩
  | 70 => ⟨S16x1x8400x1, .f32⟩
  | 71 => ⟨S16x1x8400x1, .f32⟩
  | 72 => ⟨S16x1x8400x1, .f32⟩
  | 73 => ⟨S_, .f32⟩
  | 74 => ⟨S16x1x8400x1, .f32⟩
  | 75 => ⟨S16x1x8400x1, .f32⟩
  | 76 => ⟨S16x1x8400x1, .f32⟩
  | 77 => ⟨S16x1x8400x1, .f32⟩
  | 78 => ⟨S16x1x8400x1, .f32⟩
  | 79 => ⟨S16x1x8400x1, .f32⟩
  | 80 => ⟨S16x1x8400x1, .f32⟩
  | 81 => ⟨S16x1x8400x1, .f32⟩
  | 82 => ⟨S_, .f32⟩
  | 83 => ⟨S16x1x8400x1, .f32⟩
  | 84 => ⟨S16x1x8400x1, .f32⟩
  | 85 => ⟨S16x1x8400x1, .f32⟩
  | 86 => ⟨S16x1x8400x1, .f32⟩
  | 87 => ⟨S16x1x8400x1, .f32⟩
  | 88 => ⟨S16x1x8400x1, .f32⟩
  | 89 => ⟨S16x1x8400x1, .f32⟩
  | 90 => ⟨S16x1x8400x1, .f32⟩
  | 91 => ⟨S16x1x8400x1, .f32⟩
  | 92 => ⟨S_, .f32⟩
  | 93 => ⟨S16x1x8400x1, .f32⟩
  | 94 => ⟨S16x1x8400x1, .f32⟩
  | 95 => ⟨S16x1x8400x1, .f32⟩
  | 96 => ⟨S_, .f32⟩
  | 97 => ⟨S16x1x8400x1, .f32⟩
  | 98 => ⟨S16x1x8400x1, .f32⟩
  | 99 => ⟨S16x1x8400x1, .f32⟩
  | 100 => ⟨S_, .f32⟩
  | 101 => ⟨S16x1x8400x1, .f32⟩
  | 102 => ⟨S16x1x8400x1, .i1⟩
  | 103 => ⟨S_, .f32⟩
  | 104 => ⟨S16x1x8400x1, .f32⟩
  | 105 => ⟨S16x1x8400x1, .f32⟩
  | 106 => ⟨S16x1x8400x1, .f32⟩
  | 107 => ⟨S16x64x1x1, .f32⟩
  | 108 => ⟨S_, .f32⟩
  | 109 => ⟨S16x64x1x1, .f32⟩
  | 110 => ⟨S16x64x1x1, .i1⟩
  | 111 => ⟨S_, .f32⟩
  | 112 => ⟨S16x64x1x1, .f32⟩
  | 113 => ⟨S16x64x1x1, .f32⟩
  | 114 => ⟨S16x64x1x1, .f32⟩
  | 115 => ⟨S_, .f32⟩
  | 116 => ⟨S16x64x1x1, .f32⟩
  | 117 => ⟨S16x64x1x1, .i1⟩
  | 118 => ⟨S_, .f32⟩
  | 119 => ⟨S16x64x1x1, .f32⟩
  | 120 => ⟨S16x64x1x1, .f32⟩
  | 121 => ⟨S_, .f32⟩
  | 122 => ⟨S16x64x1x1, .f32⟩
  | 123 => ⟨S16x64x1x1, .f32⟩
  | 124 => ⟨S16x64x1x1, .f32⟩
  | 125 => ⟨S16x64x1x1, .f32⟩
  | 126 => ⟨S_, .f32⟩
  | 127 => ⟨S16x64x1x1, .f32⟩
  | _ => ⟨S16x8400x80, .f32⟩

abbrev hbmTy0_2 (i : Nat) : BufTy := match i % 128 with
  | 0 => ⟨S16x64x1x1, .f32⟩
  | 1 => ⟨S_, .f32⟩
  | 2 => ⟨S16x64x1x1, .f32⟩
  | 3 => ⟨S16x64x1x1, .f32⟩
  | 4 => ⟨S16x64x1x1, .f32⟩
  | 5 => ⟨S16x64x1x1, .f32⟩
  | 6 => ⟨S_, .f32⟩
  | 7 => ⟨S16x64x1x1, .f32⟩
  | 8 => ⟨S16x64x1x1, .f32⟩
  | 9 => ⟨S16x64x1x1, .f32⟩
  | 10 => ⟨S16x64x1x1, .f32⟩
  | 11 => ⟨S16x64x1x1, .f32⟩
  | 12 => ⟨S16x64x1x1, .f32⟩
  | 13 => ⟨S_, .f32⟩
  | 14 => ⟨S16x64x1x1, .f32⟩
  | 15 => ⟨S16x64x1x1, .f32⟩
  | 16 => ⟨S16x64x1x1, .f32⟩
  | 17 => ⟨S16x64x1x1, .f32⟩
  | 18 => ⟨S16x64x1x1, .f32⟩
  | 19 => ⟨S16x64x1x1, .f32⟩
  | 20 => ⟨S16x64x1x1, .f32⟩
  | 21 => ⟨S_, .f32⟩
  | 22 => ⟨S16x64x1x1, .f32⟩
  | 23 => ⟨S16x64x1x1, .f32⟩
  | 24 => ⟨S16x64x1x1, .f32⟩
  | 25 => ⟨S16x64x1x1, .f32⟩
  | 26 => ⟨S16x64x1x1, .f32⟩
  | 27 => ⟨S16x64x1x1, .f32⟩
  | 28 => ⟨S16x64x1x1, .f32⟩
  | 29 => ⟨S_, .f32⟩
  | 30 => ⟨S16x64x1x1, .f32⟩
  | 31 => ⟨S16x64x1x1, .f32⟩
  | 32 => ⟨S16x64x1x1, .f32⟩
  | 33 => ⟨S16x64x1x1, .f32⟩
  | 34 => ⟨S16x64x1x1, .f32⟩
  | 35 => ⟨S16x64x1x1, .f32⟩
  | 36 => ⟨S16x64x1x1, .f32⟩
  | 37 => ⟨S16x64x1x1, .f32⟩
  | 38 => ⟨S_, .f32⟩
  | 39 => ⟨S16x64x1x1, .f32⟩
  | 40 => ⟨S16x64x1x1, .f32⟩
  | 41 => ⟨S16x64x1x1, .f32⟩
  | 42 => ⟨S16x64x1x1, .f32⟩
  | 43 => ⟨S16x64x1x1, .f32⟩
  | 44 => ⟨S16x64x1x1, .f32⟩
  | 45 => ⟨S16x64x1x1, .f32⟩
  | 46 => ⟨S16x64x1x1, .f32⟩
  | 47 => ⟨S_, .f32⟩
  | 48 => ⟨S16x64x1x1, .f32⟩
  | 49 => ⟨S16x64x1x1, .f32⟩
  | 50 => ⟨S16x64x1x1, .f32⟩
  | 51 => ⟨S16x64x1x1, .f32⟩
  | 52 => ⟨S16x64x1x1, .f32⟩
  | 53 => ⟨S16x64x1x1, .f32⟩
  | 54 => ⟨S16x64x1x1, .f32⟩
  | 55 => ⟨S16x64x1x1, .f32⟩
  | 56 => ⟨S16x64x1x1, .f32⟩
  | 57 => ⟨S_, .f32⟩
  | 58 => ⟨S16x64x1x1, .f32⟩
  | 59 => ⟨S16x64x1x1, .f32⟩
  | 60 => ⟨S16x64x1x1, .f32⟩
  | 61 => ⟨S_, .f32⟩
  | 62 => ⟨S16x64x1x1, .f32⟩
  | 63 => ⟨S16x64x1x1, .f32⟩
  | 64 => ⟨S16x64x1x1, .f32⟩
  | 65 => ⟨S_, .f32⟩
  | 66 => ⟨S16x64x1x1, .f32⟩
  | 67 => ⟨S16x64x1x1, .i1⟩
  | 68 => ⟨S_, .f32⟩
  | 69 => ⟨S16x64x1x1, .f32⟩
  | 70 => ⟨S16x64x1x1, .f32⟩
  | 71 => ⟨S16x64x1x1, .f32⟩
  | 72 => ⟨S16x64x8400x1, .f32⟩
  | 73 => ⟨S16x64x8400x1, .f32⟩
  | 74 => ⟨S16x64x8400x1, .f32⟩
  | 75 => ⟨S16x64x8400x1, .f32⟩
  | 76 => ⟨S_, .f32⟩
  | 77 => ⟨S16x64x8400x1, .f32⟩
  | 78 => ⟨S16x64x8400x1, .f32⟩
  | 79 => ⟨S16x64x8400x1, .f32⟩
  | 80 => ⟨S_, .f32⟩
  | 81 => ⟨S16x64x8400x1, .f32⟩
  | 82 => ⟨S16x64x8400x1, .f32⟩
  | 83 => ⟨S16x64x8400x1, .f32⟩
  | 84 => ⟨S16x64x8400x1, .f32⟩
  | 85 => ⟨S16x64x8400x1, .f32⟩
  | 86 => ⟨S16x64x8400x1, .f32⟩
  | 87 => ⟨S16x64x8400x1, .f32⟩
  | 88 => ⟨S16x64x8400, .f32⟩
  | 89 => ⟨S_, .f32⟩
  | 90 => ⟨S_, .f32⟩
  | 91 => ⟨S16x64x8400, .f32⟩
  | 92 => ⟨S16x64x8400, .f32⟩
  | 93 => ⟨S_, .f32⟩
  | 94 => ⟨S_, .f32⟩
  | 95 => ⟨S16x64x8400, .f32⟩
  | 96 => ⟨S16x64x8400, .f32⟩
  | 97 => ⟨S_, .f32⟩
  | 98 => ⟨S_, .f32⟩
  | 99 => ⟨S16x64x8400, .f32⟩
  | 100 => ⟨S16x64x8400, .f32⟩
  | 101 => ⟨S_, .f32⟩
  | 102 => ⟨S16x64x8400, .f32⟩
  | 103 => ⟨S16x64x8400, .f32⟩
  | 104 => ⟨S_, .f32⟩
  | 105 => ⟨S16x64x8400, .f32⟩
  | 106 => ⟨S16x64x8400, .f32⟩
  | 107 => ⟨S16x64x8400, .f32⟩
  | 108 => ⟨S_, .f32⟩
  | 109 => ⟨S_, .f32⟩
  | 110 => ⟨S16x64x8400, .f32⟩
  | 111 => ⟨S16x64x8400, .f32⟩
  | 112 => ⟨S16x64x10, .f32⟩
  | 113 => ⟨S16x64x10, .i32⟩
  | 114 => ⟨S_, .i32⟩
  | 115 => ⟨S_, .i32⟩
  | 116 => ⟨S16x64x10, .i1⟩
  | 117 => ⟨S16x64x10, .i32⟩
  | 118 => ⟨S16x64x10, .i32⟩
  | 119 => ⟨S16x64x10x1, .i32⟩
  | 120 => ⟨S8400, .i32⟩
  | 121 => ⟨S1x1x1x8400, .i32⟩
  | 122 => ⟨S16x64x10x8400, .i32⟩
  | 123 => ⟨S16x64x10x8400, .i32⟩
  | 124 => ⟨S16x64x10x8400, .i1⟩
  | 125 => ⟨S16x64x10x8400, .i32⟩
  | 126 => ⟨S_, .i32⟩
  | 127 => ⟨S16x64x8400, .i32⟩
  | _ => ⟨S16x8400x80, .f32⟩

abbrev hbmTy0_3 (i : Nat) : BufTy := match i % 128 with
  | 0 => ⟨S_, .i32⟩
  | 1 => ⟨S16x64x8400, .i32⟩
  | 2 => ⟨S16x64x8400, .i1⟩
  | 3 => ⟨S_, .i32⟩
  | 4 => ⟨S_, .i32⟩
  | 5 => ⟨S16x64x8400, .i32⟩
  | 6 => ⟨S16x64x8400, .i32⟩
  | 7 => ⟨S16x64x8400, .f32⟩
  | 8 => ⟨S16x64x8400, .f32⟩
  | 9 => ⟨S16x64x8400, .f32⟩
  | 10 => ⟨S16x64x8400, .f32⟩
  | 11 => ⟨S16x64x8400, .f32⟩
  | 12 => ⟨S_, .f32⟩
  | 13 => ⟨S16x8400, .f32⟩
  | 14 => ⟨S64, .i32⟩
  | 15 => ⟨S1x64x1, .i32⟩
  | 16 => ⟨S16x8400x64, .f32⟩
  | 17 => ⟨S16x8400x1, .f32⟩
  | 18 => ⟨S16x8400x1, .i32⟩
  | 19 => ⟨S16x8400, .i32⟩
  | 20 => ⟨S16x1x8400, .i32⟩
  | 21 => ⟨S16x64x8400, .i32⟩
  | 22 => ⟨S16x64x8400, .i32⟩
  | 23 => ⟨S16x64x8400, .i1⟩
  | 24 => ⟨S16x64x8400, .f32⟩
  | 25 => ⟨S16x1x8400, .f32⟩
  | 26 => ⟨S_, .f32⟩
  | 27 => ⟨S16x1x8400, .f32⟩
  | 28 => ⟨S16x1x8400, .i1⟩
  | 29 => ⟨S16x64x8400, .i1⟩
  | 30 => ⟨S16x64x8400, .f32⟩
  | 31 => ⟨S_, .f32⟩
  | 32 => ⟨S16x8400, .f32⟩
  | 33 => ⟨S16x8400x64, .f32⟩
  | 34 => ⟨S16x8400x1, .f32⟩
  | 35 => ⟨S16x8400x1, .i32⟩
  | 36 => ⟨S16x8400, .i32⟩
  | 37 => ⟨S_, .i32⟩
  | 38 => ⟨S16x8400, .i32⟩
  | 39 => ⟨S16x8400, .i1⟩
  | 40 => ⟨S_, .i32⟩
  | 41 => ⟨S16x8400, .i32⟩
  | 42 => ⟨S16x8400, .i32⟩
  | 43 => ⟨S16x8400, .i32⟩
  | 44 => ⟨S16x8400x1, .i32⟩
  | 45 => ⟨S16x8400, .i32⟩
  | 46 => ⟨S_, .i32⟩
  | 47 => ⟨S_, .i32⟩
  | 48 => ⟨S16x8400, .i32⟩
  | 49 => ⟨S16x8400, .i32⟩
  | 50 => ⟨S16x8400x1, .i32⟩
  | 51 => ⟨S_, .i32⟩
  | 52 => ⟨S16x8400x1, .i32⟩
  | 53 => ⟨S16x8400x1, .i1⟩
  | 54 => ⟨S_, .i32⟩
  | 55 => ⟨S16x8400x1, .i32⟩
  | 56 => ⟨S16x8400x1, .i32⟩
  | 57 => ⟨S16x8400x1, .i32⟩
  | 58 => ⟨S16x8400x4, .f32⟩
  | 59 => ⟨S16x8400x1, .i32⟩
  | 60 => ⟨S1x1x80, .i32⟩
  | 61 => ⟨S16x8400x80, .i32⟩
  | 62 => ⟨S16x8400x80, .i32⟩
  | 63 => ⟨S16x8400x80, .i1⟩
  | 64 => ⟨S16x8400x80, .f32⟩
  | 65 => ⟨S16x8400x1, .f32⟩
  | 66 => ⟨S_, .f32⟩
  | 67 => ⟨S16x8400x1, .f32⟩
  | 68 => ⟨S16x8400x1, .i1⟩
  | 69 => ⟨S_, .f32⟩
  | 70 => ⟨S_, .f32⟩
  | 71 => ⟨S16x8400x80, .i1⟩
  | 72 => ⟨S16x8400x80, .f32⟩
  | 73 => ⟨S16x8400x80, .f32⟩
  | 74 => ⟨S16x64x8400, .f32⟩
  | 75 => ⟨S_, .f32⟩
  | 76 => ⟨S16x64, .f32⟩
  | 77 => ⟨S16x64x1, .f32⟩
  | 78 => ⟨S16x64x8400, .f32⟩
  | 79 => ⟨S_, .f32⟩
  | 80 => ⟨S16x64, .f32⟩
  | 81 => ⟨S16x64x1, .f32⟩
  | 82 => ⟨S16x64x8400, .f32⟩
  | 83 => ⟨S16x64x8400, .f32⟩
  | 84 => ⟨S_, .f32⟩
  | 85 => ⟨S16x64x1, .f32⟩
  | 86 => ⟨S16x64x1, .f32⟩
  | 87 => ⟨S16x64x8400, .f32⟩
  | 88 => ⟨S16x64x8400, .f32⟩
  | 89 => ⟨S_, .f32⟩
  | 90 => ⟨S16x8400, .f32⟩
  | 91 => ⟨S16x8400x1, .f32⟩
  | 92 => ⟨S16x8400x80, .f32⟩
  | 93 => ⟨S16x8400x80, .f32⟩
  | 94 => ⟨S_, .f32⟩
  | 95 => ⟨S16x8400, .f32⟩
  | 96 => ⟨S16x8400, .i1⟩
  | _ => ⟨S16x8400x80, .f32⟩

abbrev hbmTy (i : Nat) : BufTy := match i / 128 with
  | 0 => hbmTy0_0 i
  | 1 => hbmTy0_1 i
  | 2 => hbmTy0_2 i
  | 3 => hbmTy0_3 i
  | _ => ⟨S16x8400x80, .f32⟩

abbrev bufTy : (tb : Table) → Fin (tcTables nBuf tb) → BufTy
  | .hbm, ⟨i, _⟩ => hbmTy i
  | _, _ => ⟨S16x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_call0_v0 : Ref sig .tc := ⟨.hbm, 79, rfl⟩
abbrev main_call0_v1 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_call1_v0 : Ref sig .tc := ⟨.hbm, 90, rfl⟩
abbrev main_call1_v1 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_10 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_11 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_12 : Ref sig .tc := ⟨.hbm, 143, rfl⟩
abbrev main_v119 : Ref sig .tc := ⟨.hbm, 144, rfl⟩
abbrev main_v120 : Ref sig .tc := ⟨.hbm, 145, rfl⟩
abbrev main_cst_13 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_14 : Ref sig .tc := ⟨.hbm, 150, rfl⟩
abbrev main_v124 : Ref sig .tc := ⟨.hbm, 151, rfl⟩
abbrev main_v125 : Ref sig .tc := ⟨.hbm, 152, rfl⟩
abbrev main_cst_15 : Ref sig .tc := ⟨.hbm, 153, rfl⟩
abbrev main_v126 : Ref sig .tc := ⟨.hbm, 154, rfl⟩
abbrev main_v127 : Ref sig .tc := ⟨.hbm, 155, rfl⟩
abbrev main_cst_16 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_17 : Ref sig .tc := ⟨.hbm, 161, rfl⟩
abbrev main_v132 : Ref sig .tc := ⟨.hbm, 162, rfl⟩
abbrev main_v133 : Ref sig .tc := ⟨.hbm, 163, rfl⟩
abbrev main_cst_18 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_19 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_20 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_21 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_22 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_23 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_24 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_25 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_26 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_cst_27 : Ref sig .tc := ⟨.hbm, 228, rfl⟩
abbrev main_v189 : Ref sig .tc := ⟨.hbm, 229, rfl⟩
abbrev main_v190 : Ref sig .tc := ⟨.hbm, 230, rfl⟩
abbrev main_cst_28 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_29 : Ref sig .tc := ⟨.hbm, 236, rfl⟩
abbrev main_v195 : Ref sig .tc := ⟨.hbm, 237, rfl⟩
abbrev main_v196 : Ref sig .tc := ⟨.hbm, 238, rfl⟩
abbrev main_cst_30 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_cst_31 : Ref sig .tc := ⟨.hbm, 243, rfl⟩
abbrev main_v200 : Ref sig .tc := ⟨.hbm, 244, rfl⟩
abbrev main_v201 : Ref sig .tc := ⟨.hbm, 245, rfl⟩
abbrev main_cst_32 : Ref sig .tc := ⟨.hbm, 246, rfl⟩
abbrev main_v202 : Ref sig .tc := ⟨.hbm, 247, rfl⟩
abbrev main_v203 : Ref sig .tc := ⟨.hbm, 248, rfl⟩
abbrev main_cst_33 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_cst_34 : Ref sig .tc := ⟨.hbm, 254, rfl⟩
abbrev main_v208 : Ref sig .tc := ⟨.hbm, 255, rfl⟩
abbrev main_v209 : Ref sig .tc := ⟨.hbm, 256, rfl⟩
abbrev main_cst_35 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_cst_36 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_cst_37 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_38 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_cst_39 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_cst_40 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_cst_41 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_cst_42 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_cst_43 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_cst_44 : Ref sig .tc := ⟨.hbm, 321, rfl⟩
abbrev main_v265 : Ref sig .tc := ⟨.hbm, 322, rfl⟩
abbrev main_v266 : Ref sig .tc := ⟨.hbm, 323, rfl⟩
abbrev main_cst_45 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_cst_46 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_cst_47 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_cst_48 : Ref sig .tc := ⟨.hbm, 345, rfl⟩
abbrev main_call10_v0 : Ref sig .tc := ⟨.hbm, 346, rfl⟩
abbrev main_call10_v1 : Ref sig .tc := ⟨.hbm, 347, rfl⟩
abbrev main_v285 : Ref sig .tc := ⟨.hbm, 348, rfl⟩
abbrev main_cst_49 : Ref sig .tc := ⟨.hbm, 349, rfl⟩
abbrev main_call11_v0 : Ref sig .tc := ⟨.hbm, 350, rfl⟩
abbrev main_call11_v1 : Ref sig .tc := ⟨.hbm, 351, rfl⟩
abbrev main_v286 : Ref sig .tc := ⟨.hbm, 352, rfl⟩
abbrev main_cst_50 : Ref sig .tc := ⟨.hbm, 353, rfl⟩
abbrev main_call12_v0 : Ref sig .tc := ⟨.hbm, 354, rfl⟩
abbrev main_call12_v1 : Ref sig .tc := ⟨.hbm, 355, rfl⟩
abbrev main_v287 : Ref sig .tc := ⟨.hbm, 356, rfl⟩
abbrev main_cst_51 : Ref sig .tc := ⟨.hbm, 357, rfl⟩
abbrev main_v288 : Ref sig .tc := ⟨.hbm, 358, rfl⟩
abbrev main_v289 : Ref sig .tc := ⟨.hbm, 359, rfl⟩
abbrev main_cst_52 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_cst_53 : Ref sig .tc := ⟨.hbm, 364, rfl⟩
abbrev main_call13_v0 : Ref sig .tc := ⟨.hbm, 365, rfl⟩
abbrev main_call13_v1 : Ref sig .tc := ⟨.hbm, 366, rfl⟩
abbrev main_v293 : Ref sig .tc := ⟨.hbm, 367, rfl⟩
abbrev main_values : Ref sig .tc := ⟨.hbm, 368, rfl⟩
abbrev main_indices : Ref sig .tc := ⟨.hbm, 369, rfl⟩
abbrev main_c_54 : Ref sig .tc := ⟨.hbm, 370, rfl⟩
abbrev main_call14_v0 : Ref sig .tc := ⟨.hbm, 371, rfl⟩
abbrev main_call14_v1 : Ref sig .tc := ⟨.hbm, 372, rfl⟩
abbrev main_call14_v2 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_c_55 : Ref sig .tc := ⟨.hbm, 382, rfl⟩
abbrev main_v302 : Ref sig .tc := ⟨.hbm, 383, rfl⟩
abbrev main_c_56 : Ref sig .tc := ⟨.hbm, 384, rfl⟩
abbrev main_v303 : Ref sig .tc := ⟨.hbm, 385, rfl⟩
abbrev main_v304 : Ref sig .tc := ⟨.hbm, 386, rfl⟩
abbrev main_c_57 : Ref sig .tc := ⟨.hbm, 387, rfl⟩
abbrev main_call15_v0 : Ref sig .tc := ⟨.hbm, 388, rfl⟩
abbrev main_call15_v1 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_cst_58 : Ref sig .tc := ⟨.hbm, 396, rfl⟩
abbrev main_v311 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_values_59 : Ref sig .tc := ⟨.hbm, 401, rfl⟩
abbrev main_indices_60 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_cst_61 : Ref sig .tc := ⟨.hbm, 410, rfl⟩
abbrev main_v322 : Ref sig .tc := ⟨.hbm, 411, rfl⟩
abbrev main_v323 : Ref sig .tc := ⟨.hbm, 412, rfl⟩
abbrev main_call16_v0 : Ref sig .tc := ⟨.hbm, 413, rfl⟩
abbrev main_v324 : Ref sig .tc := ⟨.hbm, 414, rfl⟩
abbrev main_cst_62 : Ref sig .tc := ⟨.hbm, 415, rfl⟩
abbrev main_v325 : Ref sig .tc := ⟨.hbm, 416, rfl⟩
abbrev main_v326 : Ref sig .tc := ⟨.hbm, 417, rfl⟩
abbrev main_values_63 : Ref sig .tc := ⟨.hbm, 418, rfl⟩
abbrev main_indices_64 : Ref sig .tc := ⟨.hbm, 419, rfl⟩
abbrev main_v327 : Ref sig .tc := ⟨.hbm, 420, rfl⟩
abbrev main_call17_c : Ref sig .tc := ⟨.hbm, 421, rfl⟩
abbrev main_call17_v0 : Ref sig .tc := ⟨.hbm, 422, rfl⟩
abbrev main_call17_v1 : Ref sig .tc := ⟨.hbm, 423, rfl⟩
abbrev main_call17_c_0 : Ref sig .tc := ⟨.hbm, 424, rfl⟩
abbrev main_call17_v2 : Ref sig .tc := ⟨.hbm, 425, rfl⟩
abbrev main_call17_v3 : Ref sig .tc := ⟨.hbm, 426, rfl⟩
abbrev main_call17_v4 : Ref sig .tc := ⟨.hbm, 427, rfl⟩
abbrev main_call17_v5 : Ref sig .tc := ⟨.hbm, 428, rfl⟩
abbrev main_v328 : Ref sig .tc := ⟨.hbm, 429, rfl⟩
abbrev main_c_65 : Ref sig .tc := ⟨.hbm, 430, rfl⟩
abbrev main_call18_v0 : Ref sig .tc := ⟨.hbm, 431, rfl⟩
abbrev main_call18_v1 : Ref sig .tc := ⟨.hbm, 432, rfl⟩
abbrev main_v329 : Ref sig .tc := ⟨.hbm, 433, rfl⟩
abbrev main_v330 : Ref sig .tc := ⟨.hbm, 434, rfl⟩
abbrev main_call19_c : Ref sig .tc := ⟨.hbm, 435, rfl⟩
abbrev main_call19_v0 : Ref sig .tc := ⟨.hbm, 436, rfl⟩
abbrev main_call19_v1 : Ref sig .tc := ⟨.hbm, 437, rfl⟩
abbrev main_call19_c_0 : Ref sig .tc := ⟨.hbm, 438, rfl⟩
abbrev main_call19_v2 : Ref sig .tc := ⟨.hbm, 439, rfl⟩
abbrev main_call19_v3 : Ref sig .tc := ⟨.hbm, 440, rfl⟩
abbrev main_call19_v4 : Ref sig .tc := ⟨.hbm, 441, rfl⟩
abbrev main_v331 : Ref sig .tc := ⟨.hbm, 442, rfl⟩
abbrev main_call20_v0 : Ref sig .tc := ⟨.hbm, 443, rfl⟩
abbrev main_call20_v1 : Ref sig .tc := ⟨.hbm, 444, rfl⟩
abbrev main_call20_v2 : Ref sig .tc := ⟨.hbm, 445, rfl⟩
abbrev main_call20_v3 : Ref sig .tc := ⟨.hbm, 446, rfl⟩
abbrev main_call20_v4 : Ref sig .tc := ⟨.hbm, 447, rfl⟩
abbrev main_v332 : Ref sig .tc := ⟨.hbm, 448, rfl⟩
abbrev main_v333 : Ref sig .tc := ⟨.hbm, 449, rfl⟩
abbrev main_cst_66 : Ref sig .tc := ⟨.hbm, 450, rfl⟩
abbrev main_v334 : Ref sig .tc := ⟨.hbm, 451, rfl⟩
abbrev main_v335 : Ref sig .tc := ⟨.hbm, 452, rfl⟩
abbrev main_cst_67 : Ref sig .tc := ⟨.hbm, 453, rfl⟩
abbrev main_call21_v0 : Ref sig .tc := ⟨.hbm, 454, rfl⟩
abbrev main_call21_v1 : Ref sig .tc := ⟨.hbm, 455, rfl⟩
abbrev main_call21_v2 : Ref sig .tc := ⟨.hbm, 456, rfl⟩
abbrev main_v336 : Ref sig .tc := ⟨.hbm, 457, rfl⟩
abbrev main_v337 : Ref sig .tc := ⟨.hbm, 458, rfl⟩
abbrev main_cst_68 : Ref sig .tc := ⟨.hbm, 459, rfl⟩
abbrev main_v338 : Ref sig .tc := ⟨.hbm, 460, rfl⟩
abbrev main_v339 : Ref sig .tc := ⟨.hbm, 461, rfl⟩
abbrev main_v340 : Ref sig .tc := ⟨.hbm, 462, rfl⟩
abbrev main_cst_69 : Ref sig .tc := ⟨.hbm, 463, rfl⟩
abbrev main_v341 : Ref sig .tc := ⟨.hbm, 464, rfl⟩
abbrev main_v342 : Ref sig .tc := ⟨.hbm, 465, rfl⟩
abbrev main_v343 : Ref sig .tc := ⟨.hbm, 466, rfl⟩
abbrev main_v344 : Ref sig .tc := ⟨.hbm, 467, rfl⟩
abbrev main_cst_70 : Ref sig .tc := ⟨.hbm, 468, rfl⟩
abbrev main_v345 : Ref sig .tc := ⟨.hbm, 469, rfl⟩
abbrev main_v346 : Ref sig .tc := ⟨.hbm, 470, rfl⟩
abbrev main_v347 : Ref sig .tc := ⟨.hbm, 471, rfl⟩
abbrev main_v348 : Ref sig .tc := ⟨.hbm, 472, rfl⟩
abbrev main_cst_71 : Ref sig .tc := ⟨.hbm, 473, rfl⟩
abbrev main_v349 : Ref sig .tc := ⟨.hbm, 474, rfl⟩
abbrev main_v350 : Ref sig .tc := ⟨.hbm, 475, rfl⟩
abbrev main_v351 : Ref sig .tc := ⟨.hbm, 476, rfl⟩
abbrev main_v352 : Ref sig .tc := ⟨.hbm, 477, rfl⟩
abbrev main_cst_72 : Ref sig .tc := ⟨.hbm, 478, rfl⟩
abbrev main_v353 : Ref sig .tc := ⟨.hbm, 479, rfl⟩
abbrev main_v354 : Ref sig .tc := ⟨.hbm, 480, rfl⟩

abbrev nD : Nat := 1
abbrev τ : Topo := Topo.v7x

variable {F : FTy → Type} [FloatOps F]
-- ==== Proof.Rank.lean ====
/- The rank of a position among the values of a family, ties going to the lower position: the position of a given
   rank is the one that a stable descending sort puts there. -/
module

public import Idealize.ShloMosaic.Lib.SortFacts
public import Idealize.ShloMosaic.Lib.SortPrefix
public import Mathlib.Order.Fin.Basic
public import Mathlib.Data.Fintype.Card

@[expose] public section

namespace Cert.Assign

open Idealize.ShloMosaic

variable {n : ℕ} {κ : Type} [LinearOrder κ]

/-- Position `i` comes ahead of `j`: its value is larger, or they are equal and `i` is the lower position. -/
def ahead (f : Fin n → κ) (i j : Fin n) : Prop := f j < f i ∨ (f i = f j ∧ i < j)

instance (f : Fin n → κ) (i j : Fin n) : Decidable (ahead f i j) := by unfold ahead; infer_instance

/-- How many positions come ahead of `i`. -/
def rk (f : Fin n → κ) (i : Fin n) : ℕ := (Finset.univ.filter fun j => ahead f j i).card

theorem ahead_irrefl (f : Fin n → κ) (i : Fin n) : ¬ ahead f i i := by
  rintro (h | h)
  · exact lt_irrefl _ h
  · exact lt_irrefl _ h.2

theorem ahead_trans {f : Fin n → κ} {i j k : Fin n} (h : ahead f i j) (h' : ahead f j k) : ahead f i k := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

theorem ahead_total (f : Fin n → κ) {i j : Fin n} (h : i ≠ j) : ahead f i j ∨ ahead f j i := by
  rcases lt_trichotomy (f i) (f j) with h' | h' | h'
  · exact Or.inr (Or.inl h')
  · rcases lt_or_gt_of_ne h with l | l
    · exact Or.inl (Or.inr ⟨h', l⟩)
    · exact Or.inr (Or.inr ⟨h'.symm, l⟩)
  · exact Or.inl (Or.inl h')

/-- The rank grows from a position to one that it comes ahead of. -/
theorem rk_lt {f : Fin n → κ} {i j : Fin n} (h : ahead f i j) : rk f i < rk f j := by
  refine Finset.card_lt_card (Finset.ssubset_iff_of_subset ?_ |>.mpr ⟨i, ?_, ?_⟩)
  · intro k hk
    simp only [Finset.mem_filter, Finset.mem_univ, true_and] at hk ⊢
    exact ahead_trans hk h
  · simpa using h
  · simpa using ahead_irrefl f i

theorem rk_lt_iff {f : Fin n → κ} {i j : Fin n} : rk f i < rk f j ↔ ahead f i j := by
  refine ⟨fun h => ?_, rk_lt⟩
  by_cases e : i = j
  · subst e; exact absurd h (lt_irrefl _)
  · rcases ahead_total f e with h' | h'
    · exact h'
    · exact absurd (h.trans (rk_lt h')) (lt_irrefl _)

theorem rk_injective (f : Fin n → κ) : Function.Injective (rk f) := by
  intro i j h
  by_contra e
  rcases ahead_total f e with h' | h'
  · exact absurd h (rk_lt h').ne
  · exact absurd h (rk_lt h').ne'

theorem rk_lt_size (f : Fin n → κ) (i : Fin n) : rk f i < n := by
  have h : rk f i < (Finset.univ : Finset (Fin n)).card :=
    Finset.card_lt_card ((Finset.ssubset_univ_iff).mpr fun e => ahead_irrefl f i (by
      have := Finset.mem_univ i
      rw [← e] at this
      simpa using this))
  simpa using h

/-- Every rank below the size is taken. -/
theorem exists_rk (f : Fin n → κ) {r : ℕ} (hr : r < n) : ∃ i, rk f i = r := by
  have hs : Function.Surjective fun i => (⟨rk f i, rk_lt_size f i⟩ : Fin n) :=
    Finite.injective_iff_surjective.mp fun i j h => rk_injective f (Fin.ext_iff.mp h)
  obtain ⟨i, hi⟩ := hs ⟨r, hr⟩
  exact ⟨i, Fin.ext_iff.mp hi⟩

theorem insertBefore_agree {ι : Type} {R R' : ι → ι → Bool} {a : ι} :
    ∀ {l : List ι}, (∀ b ∈ l, R b a = R' b a) → insertBefore R a l = insertBefore R' a l
  | [], _ => rfl
  | b :: l, h => by
    have hb := h b (by simp)
    have hl := insertBefore_agree (l := l) fun c hc => h c (by simp [hc])
    simp only [insertBefore, hb, hl]

/-- Two comparators that agree on each later position against each earlier one sort a list the same way. -/
theorem stableSort_agree {ι : Type} {R R' : ι → ι → Bool} :
    ∀ {l : List ι}, l.Pairwise (fun a b => R b a = R' b a) → stableSort R l = stableSort R' l
  | [], _ => rfl
  | a :: l, h => by
    rw [List.pairwise_cons] at h
    simp only [stableSort, stableSort_agree h.2]
    exact insertBefore_agree fun b hb => h.1 b ((perm_stableSort R' l).mem_iff.mp hb)

theorem strictTotal (f : Fin n → κ) : StrictTotalBefore fun i j => decide (ahead f i j) where
  irrefl a := decide_eq_false (ahead_irrefl f a)
  trans a b c h h' := decide_eq_true (ahead_trans (of_decide_eq_true h) (of_decide_eq_true h'))
  total a b h := (ahead_total f h).imp decide_eq_true decide_eq_true

/-- A stable descending sort puts at position `r` the position of rank `r`. -/
theorem rk_sortedFrom {B : Fin n → Fin n → Bool} (f : Fin n → κ) (hB : ∀ i j, B i j = true ↔ f j < f i) (r : Fin n) :
    rk f (sortedFrom B r) = r := by
  have e : sortedFrom B = sortedFrom fun i j => decide (ahead f i j) := by
    have : sortPositions n B = sortPositions n fun i j => decide (ahead f i j) := by
      refine stableSort_agree ((List.pairwise_lt_finRange n).imp ?_)
      intro a b hab
      rw [Bool.eq_iff_iff, hB, decide_eq_true_iff]
      exact ⟨Or.inl, fun h => h.resolve_right fun h' => absurd (hab.trans h'.2) (lt_irrefl _)⟩
    funext i
    unfold sortedFrom
    simp only [List.get_eq_getElem, this]
    rfl
  rw [e]
  choose σ hσ using fun i : Fin n => exists_rk f i.2
  have := (strictTotal f).sortedFrom_eq_of_prefix le_rfl σ
    (fun i j h => Fin.ext (by rw [← hσ i, ← hσ j, h]))
    (fun i j h => decide_eq_false fun h' => by
      have := rk_lt h'; rw [hσ, hσ] at this; exact absurd (h.trans (by exact_mod_cast this)) (lt_irrefl _))
    (fun i p h => by
      exfalso
      exact h ⟨rk f p, rk_lt_size f p⟩ (rk_injective f (hσ _))) r
  rw [show (r : Fin n) = r.castLE le_rfl from rfl, this, hσ]
  rfl

end Cert.Assign

end
-- ==== Proof.Reals.lean ====
/- Extended reals that are real numbers, and the ideal scalar operations on them. -/
module

public import Idealize.ShloMosaic.PureOps.Ideal.Laws
public import Idealize.ShloMosaic.Lib.IdealHost
public import Mathlib.Tactic.NormNum
public import Mathlib.Tactic.Positivity

@[expose] public section

noncomputable section

namespace Cert.Assign

open Idealize.ShloMosaic

/-- The extended real is a real number. -/
def IsR (x : EReal) : Prop := ∃ r : ℝ, x = r

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, by push_cast; rfl⟩
theorem IsR.sub {x y : EReal} : IsR x → IsR y → IsR (x - y) := by
  rintro ⟨a, rfl⟩ ⟨b, rfl⟩; exact ⟨a - b, by push_cast; rfl⟩
theorem IsR.mul {x y : EReal} : IsR x → IsR y → IsR (x * y) := by
  rintro ⟨a, rfl⟩ ⟨b, rfl⟩; exact ⟨a * b, by push_cast; rfl⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption
theorem IsR.ite {p : Prop} [Decidable p] {x y : EReal} (hx : IsR x) (hy : IsR y) : IsR (if p then x else y) := by
  split <;> assumption
theorem IsR.of_bounds {x : EReal} (h : ⊥ < x) (h' : x < ⊤) : IsR x :=
  ⟨x.toReal, (EReal.coe_toReal h'.ne h.ne').symm⟩
theorem IsR.lt_top {x : EReal} : IsR x → x < ⊤ := by rintro ⟨a, rfl⟩; exact EReal.coe_lt_top a
theorem IsR.bot_lt {x : EReal} : IsR x → ⊥ < x := by rintro ⟨a, rfl⟩; exact EReal.bot_lt_coe a
theorem IsR.sub_self {x : EReal} : IsR x → x - x = 0 := by
  rintro ⟨a, rfl⟩; rw [← EReal.coe_sub, _root_.sub_self]; rfl

theorem div_real (a : ℝ) {b : ℝ} (h : b ≠ 0) : Ideal.div (a : EReal) (b : EReal) = ((a / b : ℝ) : EReal) := by
  rw [Ideal.div_coe h, ← EReal.coe_mul]; congr 1; ring

theorem IsR.div {x y : EReal} (hx : IsR x) (hy : IsR y) (h : y ≠ 0) : IsR (Ideal.div x y) := by
  obtain ⟨a, rfl⟩ := hx
  obtain ⟨b, rfl⟩ := hy
  have hb : b ≠ 0 := fun e => h (by rw [e]; rfl)
  exact ⟨a / b, div_real a hb⟩

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

/-- A float word whose exponent field is not all ones denotes a real number. -/
theorem word_real {w : BitVec 32} (h : (w.extractLsb' 23 8).toNat ≠ 255) : IsR (Ideal.ofBits .f32 w) := by
  simp only [Ideal.ofBits, Ideal.ieee]
  rw [if_neg (by simpa using h)]
  split <;> exact ⟨_, rfl⟩

/-- A float word without a sign, neither infinite nor subnormal, denotes a positive number. -/
theorem word_pos {w : BitVec 32} (h : (w.extractLsb' 23 8).toNat ≠ 255) (h0 : (w.extractLsb' 23 8).toNat ≠ 0)
    (hs : (w.extractLsb' 31 1 == 1#1) = false) : 0 < Ideal.ofBits .f32 w := by
  simp only [Ideal.ofBits, Ideal.ieee]
  rw [if_neg (by simpa using h), if_neg h0, EReal.coe_pos, show (8 : ℕ) + 23 = 31 from rfl, hs]
  simp only [Bool.false_eq_true, if_false, one_mul]
  positivity

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_neg_one : Ideal.ofBits .f32 0xBF800000#32 = ((-1 : ℝ) : EReal) := by
  simp [Ideal.ofBits, Ideal.ieee, -EReal.coe_mul, -EReal.coe_neg]; norm_num
theorem word_half : Ideal.ofBits .f32 0x3F000000#32 = ((1 / 2 : ℝ) : EReal) := by
  simp [Ideal.ofBits, Ideal.ieee, -EReal.coe_mul]; norm_num
theorem word_six : Ideal.ofBits .f32 0x40C00000#32 = ((6 : ℝ) : EReal) := by
  simp [Ideal.ofBits, Ideal.ieee, -EReal.coe_mul]; norm_num
theorem word_tiny_le_one : Ideal.ofBits .f32 0x0DA24260#32 ≤ 1 := by
  rw [show (1 : EReal) = ((1 : ℝ) : EReal) by norm_cast]
  simp [Ideal.ofBits, Ideal.ieee, -EReal.coe_mul, -EReal.coe_one]; norm_num

/-- The square root of a number that is not negative is its power 1/2. -/
theorem pow_half {x : EReal} (h : 0 ≤ x) : Ideal.pow x (Ideal.ofBits .f32 0x3F000000#32) = Ideal.sqrt x := by
  rw [word_half]
  induction x with
  | bot => exact absurd h (by simp)
  | top => exact if_pos (EReal.coe_pos.mpr (by norm_num))
  | coe r =>
    have hr : 0 ≤ r := EReal.coe_nonneg.mp h
    rw [Ideal.pow_coe_coe, Ideal.sqrt_coe, if_neg (not_lt.mpr hr), Real.sqrt_eq_rpow]
    rfl

theorem pow_six {x : EReal} (hx : IsR x) :
    Ideal.pow x (Ideal.ofBits .f32 0x40C00000#32) = x * x * (x * x) * (x * x) := by
  obtain ⟨r, rfl⟩ := hx
  rw [word_six, Ideal.pow_coe_coe]
  norm_cast
  change r ^ (6 : ℝ) = _
  rw [show (6 : ℝ) = ((6 : ℕ) : ℝ) by norm_num, Real.rpow_natCast]
  ring

theorem sqrt_nonneg {x : EReal} (h : 0 ≤ x) : 0 ≤ Ideal.sqrt x := by
  induction x with
  | bot => exact absurd h (by simp)
  | top => exact le_top
  | coe r =>
    rw [Ideal.sqrt_coe, if_neg (not_lt.mpr (EReal.coe_nonneg.mp h))]
    exact EReal.coe_nonneg.mpr (Real.sqrt_nonneg r)

/-- A product divided at its second factor, by a positive number: the order of the two does not matter. -/
theorem mul_div {x y z : EReal} (h : z ≠ 0) : x * Ideal.div y z = Ideal.div (x * y) z := by
  simp only [Ideal.div, if_neg h, mul_assoc]

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem div_top (x : EReal) : Ideal.div x ⊤ = 0 := by
  rw [Ideal.div, if_neg (by simp), EReal.inv_top, mul_zero]

theorem div_bot (x : EReal) : Ideal.div x ⊥ = 0 := by
  rw [Ideal.div, if_neg (by simp), EReal.inv_bot, mul_zero]

theorem div_nonneg' {x y : EReal} (hx : 0 ≤ x) (hy : 0 < y) : 0 ≤ Ideal.div x y := by
  rw [Ideal.div, if_neg hy.ne']
  exact mul_nonneg hx (EReal.inv_nonneg_of_nonneg hy.le)

/-- A quotient of zero is at most zero. -/
theorem zero_div_le (y : EReal) : Ideal.div 0 y ≤ 0 := by
  rw [Ideal.div]
  split
  · rw [if_neg (lt_irrefl _)]; exact bot_le
  · rw [zero_mul]

/-- A positive real number divided by one as large is at most one. -/
theorem div_le_one' {r : ℝ} {y : EReal} (hr : 0 < r) (h : (r : EReal) ≤ y) : Ideal.div r y ≤ 1 := by
  induction y with
  | bot => exact absurd h (by simp)
  | top => rw [div_top]; exact zero_le_one
  | coe s =>
    have hs := EReal.coe_le_coe_iff.mp h
    rw [div_real r (hr.trans_le hs).ne']
    exact_mod_cast (div_le_one (hr.trans_le hs)).mpr hs

/-- A number below plus infinity, with what is left of it after taking it away, is the number. -/
theorem add_sub_self {x : EReal} (h : x < ⊤) : x + (x - x) = x := by
  induction x with
  | bot => rfl
  | top => exact absurd h (lt_irrefl _)
  | coe r => rw [(IsR.coe r).sub_self, add_zero]

/-- The largest of the values of a family. -/
def top {n : ℕ} (f : Fin n → EReal) : EReal := Finset.univ.fold max (Ideal.ofBits .f32 0xFF800000#32) f

theorem top_eq_sup {n : ℕ} (f : Fin n → EReal) : top f = Finset.univ.sup f := by
  rw [top, word_bot]; rfl

theorem le_top' {n : ℕ} (f : Fin n → EReal) (i : Fin n) : f i ≤ top f := by
  rw [top_eq_sup]; exact Finset.le_sup (Finset.mem_univ i)

theorem exists_top {n : ℕ} (hn : 0 < n) (f : Fin n → EReal) : ∃ i, top f = f i := by
  haveI : Nonempty (Fin n) := ⟨⟨0, hn⟩⟩
  obtain ⟨i, _, hi⟩ := Finset.exists_mem_eq_sup' Finset.univ_nonempty f
  exact ⟨i, by rw [top_eq_sup, ← hi, Finset.sup'_eq_sup]⟩

theorem top_of_ge {n : ℕ} (f : Fin n → EReal) (i : Fin n) (h : ∀ j, f j ≤ f i) : top f = f i := by
  refine le_antisymm ?_ (le_top' f i)
  rw [top_eq_sup]; exact Finset.sup_le fun j _ => h j

end Cert.Assign

end
-- ==== Proof.Spec.lean ====
/- One image's assignment of anchors to boxes, over the extended reals: what both programs compute. -/
module

public import proofs.«01_k».proof.Proof.Rank
public import proofs.«01_k».proof.Proof.Reals

@[expose] public section

noncomputable section

namespace Cert.Assign

open Idealize.ShloMosaic

/-! ### The overlap of two boxes -/

/-- The small numbers 1e-7 and 1e-9, and the other constants, as their float words denote them. -/
abbrev e7 : EReal := Ideal.ofBits .f32 0x33D6BF95#32
abbrev e9 : EReal := Ideal.ofBits .f32 0x3089705F#32
abbrev quarterPi : EReal := Ideal.ofBits .f32 0x3F490FDB#32
abbrev halfPi : EReal := Ideal.ofBits .f32 0x3FC90FDB#32
abbrev tanEighth : EReal := Ideal.ofBits .f32 0x3ED413CD#32
abbrev fourOverPiSq : EReal := Ideal.ofBits .f32 0x3ECF817B#32
abbrev onePlus : EReal := Ideal.ofBits .f32 0x3F800001#32
abbrev four : EReal := Ideal.ofBits .f32 0x40800000#32
abbrev c3 : EReal := Ideal.ofBits .f32 0xBEAAAAAB#32
abbrev c5 : EReal := Ideal.ofBits .f32 0x3E4CCCCD#32
abbrev c7 : EReal := Ideal.ofBits .f32 0xBE124925#32
abbrev c9 : EReal := Ideal.ofBits .f32 0x3DE38E39#32
abbrev c11 : EReal := Ideal.ofBits .f32 0xBDBA2E8C#32
abbrev c13 : EReal := Ideal.ofBits .f32 0x3D9D89D9#32
abbrev c15 : EReal := Ideal.ofBits .f32 0xBD888889#32

abbrev Box := Fin 4 → EReal

def wid (b : Box) : EReal := b 2 - b 0
def hgt (b : Box) : EReal := b 3 - b 1 + e7
def inter (g p : Box) : EReal :=
  max 0 (min (g 2) (p 2) - max (g 0) (p 0)) * max 0 (min (g 3) (p 3) - max (g 1) (p 1))
def union (g p : Box) : EReal := wid g * hgt g + wid p * hgt p - inter g p + e7
def iou (g p : Box) : EReal := Ideal.div (inter g p) (union g p)
def hull (g p : Box) : EReal :=
  (max (g 2) (p 2) - min (g 0) (p 0)) * (max (g 2) (p 2) - min (g 0) (p 0)) +
    (max (g 3) (p 3) - min (g 1) (p 1)) * (max (g 3) (p 3) - min (g 1) (p 1)) + e7
def dist (g p : Box) : EReal :=
  Ideal.div ((p 0 + p 2 - g 0 - g 2) * (p 0 + p 2 - g 0 - g 2) + (p 1 + p 3 - g 1 - g 3) * (p 1 + p 3 - g 1 - g 3)) four

/-- The arctangent's series to the power 15, as a sum of powers. -/
def powers (z : EReal) : EReal :=
  let s := z * z
  let q := s * s
  0 + 1 * z + c3 * (s * z) + c5 * (z * q) + c7 * (z * s * q) + c9 * (z * (q * q)) + c11 * (z * s * (q * q)) +
    c13 * (z * q * (q * q)) + c15 * (z * s * q * (q * q))

/-- The same by Horner's rule. -/
def horner (z : EReal) : EReal :=
  let s := z * z
  (((((((c15 * s + c13) * s + c11) * s + c9) * s + c7) * s + c5) * s + c3) * s + 1) * z

/-- The arctangent of a number that is not negative, by a series `p` near zero and two reductions of its range;
    `low` bounds the divisor of the first from below. -/
def angle (p low : EReal → EReal) (x : EReal) : EReal :=
  let y := if 1 < x then Ideal.div 1 (low x) else x
  let z := if tanEighth < y then Ideal.div (y - 1) (y + 1) else y
  let s := p z
  let u := if tanEighth < y then quarterPi + s else s
  if 1 < x then halfPi - u else u

def shape (b : Box) : EReal := angle powers id (Ideal.div (wid b) (hgt b))
def aspect (g p : Box) : EReal := fourOverPiSq * ((shape p - shape g) * (shape p - shape g))
def ciou (g p : Box) : EReal :=
  iou g p - (Ideal.div (dist g p) (hull g p) +
    aspect g p * Ideal.div (aspect g p) (aspect g p - iou g p + onePlus))

/-! ### One image -/

/-- The arguments of one image: the true boxes and their labels, the predicted boxes, the anchors and the scores. -/
structure Image where
  gb : Fin 64 → Box
  lab : Fin 64 → Fin 80
  pb : Fin 8400 → Box
  ax : Fin 8400 → EReal
  ay : Fin 8400 → EReal
  sc : Fin 8400 → Fin 80 → EReal

/-- No true box reaches plus infinity, and no score is negative. -/
structure Image.Good (I : Image) : Prop where
  gb : ∀ g k, I.gb g k < ⊤
  sc : ∀ a c, 0 ≤ I.sc a c

namespace Image

variable (I : Image)

/-- The anchor lies inside the true box, by more than 1e-9. -/
def inside (g : Fin 64) (a : Fin 8400) : Prop :=
  e9 < min (min (I.ax a - I.gb g 0) (I.ay a - I.gb g 1)) (min (I.gb g 2 - I.ax a) (I.gb g 3 - I.ay a))
instance (g : Fin 64) (a : Fin 8400) : Decidable (I.inside g a) := by unfold inside; infer_instance

def ovl (g : Fin 64) (a : Fin 8400) : EReal := if I.inside g a then max 0 (ciou (I.gb g) (I.pb a)) else 0

/-- The alignment of a true box and an anchor: the root of the score times the overlap's sixth power. -/
def met (g : Fin 64) (a : Fin 8400) : EReal :=
  Ideal.sqrt (I.sc a (I.lab g)) * (I.ovl g a * I.ovl g a * (I.ovl g a * I.ovl g a) * (I.ovl g a * I.ovl g a))

/-- The candidates: the anchors inside among the box's ten best aligned. -/
def pos0 (g : Fin 64) (a : Fin 8400) : EReal := if rk (I.met g) a < 10 ∧ I.inside g a then 1 else 0
def cnt0 (a : Fin 8400) : EReal := ∑ g, I.pos0 g a
/-- An anchor that several boxes claim goes to the one that overlaps it most. -/
def pos (g : Fin 64) (a : Fin 8400) : EReal :=
  if 1 < I.cnt0 a then (if rk (fun g => I.ovl g a) g = 0 then 1 else 0) else I.pos0 g a
def cnt (a : Fin 8400) : EReal := ∑ g, I.pos g a
/-- The box that the anchor is assigned to, the first where there is none. -/
def sel (a : Fin 8400) : Fin 64 := (exists_rk (fun g => I.pos g a) (r := 0) (by decide)).choose
theorem rk_sel (a : Fin 8400) : rk (fun g => I.pos g a) (I.sel a) = 0 :=
  (exists_rk (fun g => I.pos g a) (r := 0) (by decide)).choose_spec

def norm (g : Fin 64) (a : Fin 8400) : EReal :=
  Ideal.div (I.met g a * I.pos g a * top fun a => I.ovl g a * I.pos g a) (top (fun a => I.met g a * I.pos g a) + e9)
def scale (a : Fin 8400) : EReal := top fun g => I.norm g a

/-- The three results. -/
def boxes (a : Fin 8400) (k : Fin 4) : EReal := I.gb (I.sel a) k
def scores (a : Fin 8400) (c : Fin 80) : EReal :=
  (if 0 < I.cnt a then (if I.lab (I.sel a) = c then 1 else 0) else 0) * I.scale a
def taken (a : Fin 8400) : BitVec 1 := BitVec.ofBool (decide (0 < I.cnt a))

end Image

end Cert.Assign

end
-- ==== Proof.Facts.lean ====
/- What is finite and what is not negative in one image, and the two ways to sum the arctangent's series. -/
module

public import proofs.«01_k».proof.Proof.Spec
public import Mathlib.Tactic.Linarith

@[expose] public section

noncomputable section

namespace Cert.Assign

open Idealize.ShloMosaic

theorem e7_real : IsR e7 := word_real (by decide)
theorem e7_pos : 0 < e7 := word_pos (by decide) (by decide) (by decide)
theorem e9_real : IsR e9 := word_real (by decide)
theorem e9_pos : 0 < e9 := word_pos (by decide) (by decide) (by decide)
theorem quarterPi_real : IsR quarterPi := word_real (by decide)
theorem halfPi_real : IsR halfPi := word_real (by decide)
theorem fourOverPiSq_real : IsR fourOverPiSq := word_real (by decide)
theorem fourOverPiSq_pos : 0 < fourOverPiSq := word_pos (by decide) (by decide) (by decide)
theorem onePlus_real : IsR onePlus := word_real (by decide)
theorem four_real : IsR four := word_real (by decide)
theorem four_pos : 0 < four := word_pos (by decide) (by decide) (by decide)
theorem c3_real : IsR c3 := word_real (by decide)
theorem c5_real : IsR c5 := word_real (by decide)
theorem c7_real : IsR c7 := word_real (by decide)
theorem c9_real : IsR c9 := word_real (by decide)
theorem c11_real : IsR c11 := word_real (by decide)
theorem c13_real : IsR c13 := word_real (by decide)
theorem c15_real : IsR c15 := word_real (by decide)

/-- On the real numbers, Horner's rule and the sum of powers give the same. -/
theorem horner_eq {z : EReal} (hz : IsR z) : horner z = powers z := by
  obtain ⟨z, rfl⟩ := hz
  obtain ⟨d3, h3⟩ := c3_real
  obtain ⟨d5, h5⟩ := c5_real
  obtain ⟨d7, h7⟩ := c7_real
  obtain ⟨d9, h9⟩ := c9_real
  obtain ⟨d11, h11⟩ := c11_real
  obtain ⟨d13, h13⟩ := c13_real
  obtain ⟨d15, h15⟩ := c15_real
  simp only [horner, powers, h3, h5, h7, h9, h11, h13, h15]
  norm_cast
  ring

theorem powers_real {z : EReal} (hz : IsR z) : IsR (powers z) := by
  have s := hz.mul hz
  have q := s.mul s
  exact ((((((((IsR.zero.add (IsR.one.mul hz)).add (c3_real.mul (s.mul hz))).add (c5_real.mul (hz.mul q))).add
    (c7_real.mul ((hz.mul s).mul q))).add (c9_real.mul (hz.mul (q.mul q)))).add
    (c11_real.mul ((hz.mul s).mul (q.mul q)))).add (c13_real.mul ((hz.mul q).mul (q.mul q)))).add
    (c15_real.mul (((hz.mul s).mul q).mul (q.mul q))))

theorem tanEighth_pos : 0 < tanEighth := word_pos (by decide) (by decide) (by decide)

theorem c15_neg : c15 < 0 := by
  rw [← EReal.coe_zero]
  simp [Ideal.ofBits, Ideal.ieee, -EReal.coe_mul, -EReal.coe_neg, -EReal.coe_zero]

theorem onePlus_gt : 1 < onePlus := by
  rw [← EReal.coe_one]
  simp [Ideal.ofBits, Ideal.ieee, -EReal.coe_mul, -EReal.coe_one]; norm_num

section angle

variable {x : EReal} (hx : x ≠ ⊥)
include hx

/-- The first reduction of a number's range leaves a real number. -/
theorem reduced_real : IsR (if 1 < x then Ideal.div 1 x else x) := by
  induction x with
  | bot => exact absurd rfl hx
  | top => rw [if_pos (by exact_mod_cast EReal.coe_lt_top 1), div_top]; exact IsR.zero
  | coe r =>
    split
    · rename_i h
      exact IsR.one.div (IsR.coe r) (zero_lt_one.trans h).ne'
    · exact IsR.coe r

omit hx in
/-- … and so does the second. -/
theorem reduced_real' {y : EReal} (hy : IsR y) : IsR (if tanEighth < y then Ideal.div (y - 1) (y + 1) else y) := by
  split
  · rename_i h
    have : (0 : EReal) < y + 1 := lt_of_lt_of_le zero_lt_one (le_add_of_nonneg_left (tanEighth_pos.trans h).le)
    exact IsR.div (hy.sub IsR.one) (hy.add IsR.one) this.ne'
  · exact hy

theorem angle_real : IsR (angle powers id x) := by
  have hs := powers_real (reduced_real' (reduced_real hx))
  have hu := IsR.ite (p := tanEighth < if 1 < x then Ideal.div 1 x else x) (quarterPi_real.add hs) hs
  exact IsR.ite (halfPi_real.sub hu) hu

/-- Horner's rule, and a divisor kept above a number that is at most one, change nothing. -/
theorem angle_horner {l : EReal} (hl : l ≤ 1) : angle horner (fun x => max x l) x = angle powers id x := by
  have hz := reduced_real' (reduced_real hx)
  have e : (if 1 < x then Ideal.div 1 (max x l) else x) = if 1 < x then Ideal.div 1 x else x := by
    split
    · rename_i h; rw [max_eq_left (hl.trans h.le)]
    · rfl
  simp only [angle, e, horner_eq hz, id]

end angle

/-- At minus infinity the two ways part: Horner's rule gives plus infinity, … -/
theorem angle_horner_bot (low : EReal → EReal) : angle horner low ⊥ = ⊤ := by
  have h : horner ⊥ = ⊤ := by
    simp only [horner, EReal.bot_mul_bot, EReal.mul_top_of_neg c15_neg, EReal.bot_add, EReal.bot_mul_top]
  simp only [angle, if_neg (not_lt_bot (a := (1 : EReal))), if_neg (not_lt_bot (a := tanEighth)), h]

/-- … and the sum of powers minus infinity. -/
theorem angle_powers_bot (low : EReal → EReal) : angle powers low ⊥ = ⊥ := by
  have h : powers ⊥ = ⊥ := by
    simp only [powers, one_mul, EReal.add_bot, EReal.bot_add]
  simp only [angle, if_neg (not_lt_bot (a := (1 : EReal))), if_neg (not_lt_bot (a := tanEighth)), h]

/-- The squared difference of two angles is the same both ways, whatever the first is of. -/
theorem angle_square {x y l : EReal} (hy : y ≠ ⊥) (hl : l ≤ 1) :
    (angle horner (fun x => max x l) x - angle horner (fun x => max x l) y) *
      (angle horner (fun x => max x l) x - angle horner (fun x => max x l) y) =
    (angle powers id x - angle powers id y) * (angle powers id x - angle powers id y) := by
  rw [angle_horner hy hl]
  by_cases hx : x = ⊥
  · obtain ⟨s, hs⟩ := angle_real hy
    rw [hx, angle_horner_bot, angle_powers_bot, hs, EReal.top_sub_coe, EReal.bot_sub, EReal.top_mul_top,
      EReal.bot_mul_bot]
  · rw [angle_horner hx hl]

/-! ### Two boxes -/

theorem ratio_ne_bot {g : Box} (hx : g 0 < g 2) (hy : g 1 < g 3) : Ideal.div (wid g) (hgt g) ≠ ⊥ := by
  have hw : 0 < wid g := EReal.sub_pos.mpr hx
  have hh : 0 < hgt g := lt_of_lt_of_le e7_pos (le_add_of_nonneg_left (EReal.sub_pos.mpr hy).le)
  exact (lt_of_lt_of_le EReal.bot_lt_zero (div_nonneg' hw.le hh)).ne'

/-- Where two boxes meet, they meet in no more than either. -/
theorem meet_le {a b c d : EReal} : min a b - max c d ≤ a - c ∧ min a b - max c d ≤ b - d :=
  ⟨EReal.sub_le_sub (min_le_left _ _) (le_max_left _ _), EReal.sub_le_sub (min_le_right _ _) (le_max_right _ _)⟩

/-- The quotient of the boxes' meet and union is at most one. -/
theorem iou_le_one (g p : Box) : iou g p ≤ 1 := by
  have zero (h : inter g p = 0) : iou g p ≤ 1 := by
    rw [iou, h]; exact (zero_div_le _).trans zero_le_one
  by_cases hx : 0 < min (g 2) (p 2) - max (g 0) (p 0)
  swap
  · exact zero (by rw [inter, max_eq_left (not_lt.mp hx), zero_mul])
  by_cases hy : 0 < min (g 3) (p 3) - max (g 1) (p 1)
  swap
  · exact zero (by rw [inter, max_eq_left (not_lt.mp hy), mul_zero])
  have e : inter g p = (min (g 2) (p 2) - max (g 0) (p 0)) * (min (g 3) (p 3) - max (g 1) (p 1)) := by
    rw [inter, max_eq_right hx.le, max_eq_right hy.le]
  have tall (z : EReal) : z ≤ z + e7 := le_add_of_nonneg_right e7_pos.le
  have hG : inter g p ≤ wid g * hgt g := by
    rw [e]
    exact mul_le_mul meet_le.1 (meet_le.1.trans (tall _)) hy.le (hx.le.trans meet_le.1)
  have hP : inter g p ≤ wid p * hgt p := by
    rw [e]
    exact mul_le_mul meet_le.2 (meet_le.2.trans (tall _)) hy.le (hx.le.trans meet_le.2)
  have h0 : 0 < inter g p := by rw [e]; exact EReal.mul_pos hx hy
  have hu : inter g p + inter g p - inter g p + e7 ≤ union g p :=
    add_le_add (EReal.sub_le_sub (add_le_add hG hP) le_rfl) le_rfl
  rw [iou]
  by_cases ht : inter g p = ⊤
  · rw [union, ht, EReal.sub_top, EReal.bot_add, div_bot]
    exact zero_le_one
  · obtain ⟨r, hr⟩ := IsR.of_bounds (EReal.bot_lt_zero.trans h0) (lt_top_iff_ne_top.mpr ht)
    rw [hr] at hu h0 ⊢
    refine div_le_one' (EReal.coe_pos.mp h0) (le_trans ?_ hu)
    rw [← EReal.coe_add, ← EReal.coe_sub, add_sub_cancel_right]
    exact tall _

/-- The overlap is at most one. -/
theorem ciou_le_one (g p : Box) : ciou g p ≤ 1 := by
  have hi := iou_le_one g p
  have ha : 0 ≤ aspect g p := mul_nonneg fourOverPiSq_pos.le (square_nonneg _)
  have hh : 0 < hull g p := lt_of_lt_of_le e7_pos (le_add_of_nonneg_left (add_nonneg (square_nonneg _) (square_nonneg _)))
  have hd : 0 ≤ dist g p := div_nonneg' (add_nonneg (square_nonneg _) (square_nonneg _)) four_pos
  have hden : 0 < aspect g p - iou g p + onePlus := by
    have h1 : (0 : EReal) - 1 ≤ aspect g p - iou g p := EReal.sub_le_sub ha hi
    refine lt_of_lt_of_le ?_ (add_le_add h1 le_rfl)
    have := EReal.sub_pos.mpr onePlus_gt
    rwa [zero_sub, add_comm, ← sub_eq_add_neg]
  have hs : 0 ≤ Ideal.div (dist g p) (hull g p) + aspect g p * Ideal.div (aspect g p) (aspect g p - iou g p + onePlus) :=
    add_nonneg (div_nonneg' hd hh) (mul_nonneg ha (div_nonneg' ha hden))
  simpa [ciou] using EReal.sub_le_sub hi hs

/-! ### An image -/

/-- The largest of finitely many values, one of them there, has what they all have. -/
theorem top_of_all {n : ℕ} (hn : 0 < n) {P : EReal → Prop} {f : Fin n → EReal} (h : ∀ i, P (f i)) : P (top f) := by
  obtain ⟨i, hi⟩ := exists_top hn f
  rw [hi]; exact h i

namespace Image

variable {I : Image} (hI : I.Good)
include hI

omit hI in
/-- An anchor is only inside a box whose corners are in order. -/
theorem inside_order {g : Fin 64} {a : Fin 8400} (h : I.inside g a) : I.gb g 0 < I.gb g 2 ∧ I.gb g 1 < I.gb g 3 := by
  obtain ⟨h1, h2⟩ := lt_min_iff.mp h
  obtain ⟨a1, a2⟩ := lt_min_iff.mp h1
  obtain ⟨b1, b2⟩ := lt_min_iff.mp h2
  exact ⟨(EReal.sub_pos.mp (e9_pos.trans a1)).trans (EReal.sub_pos.mp (e9_pos.trans b1)),
    (EReal.sub_pos.mp (e9_pos.trans a2)).trans (EReal.sub_pos.mp (e9_pos.trans b2))⟩

omit hI in
theorem ovl_real (g : Fin 64) (a : Fin 8400) : IsR (I.ovl g a) := by
  refine IsR.ite (IsR.of_bounds (lt_of_lt_of_le EReal.bot_lt_zero (le_max_left _ _)) (max_lt EReal.zero_lt_top ?_)) IsR.zero
  exact (ciou_le_one _ _).trans_lt (by exact_mod_cast EReal.coe_lt_top 1)

omit hI in
theorem ovl_nonneg (g : Fin 64) (a : Fin 8400) : 0 ≤ I.ovl g a := by
  unfold ovl; split
  · exact le_max_left _ _
  · exact le_rfl

theorem met_nonneg (g : Fin 64) (a : Fin 8400) : 0 ≤ I.met g a := by
  have o := I.ovl_nonneg g a
  exact mul_nonneg (sqrt_nonneg (hI.sc a _))
    (mul_nonneg (mul_nonneg (mul_nonneg o o) (mul_nonneg o o)) (mul_nonneg o o))

omit hI in
theorem pos0_cases (g : Fin 64) (a : Fin 8400) : I.pos0 g a = 0 ∨ I.pos0 g a = 1 := by
  unfold pos0; split
  · exact Or.inr rfl
  · exact Or.inl rfl

omit hI in
theorem pos_cases (g : Fin 64) (a : Fin 8400) : I.pos g a = 0 ∨ I.pos g a = 1 := by
  unfold pos; split
  · split
    · exact Or.inr rfl
    · exact Or.inl rfl
  · exact I.pos0_cases g a

omit hI in
theorem pos_real (g : Fin 64) (a : Fin 8400) : IsR (I.pos g a) := by
  rcases I.pos_cases g a with h | h <;> rw [h]
  · exact IsR.zero
  · exact IsR.one

omit hI in
theorem pos_nonneg (g : Fin 64) (a : Fin 8400) : 0 ≤ I.pos g a := by
  rcases I.pos_cases g a with h | h <;> rw [h]
  exact zero_le_one

/-- What a box's best alignment is divided into is positive. -/
theorem denom_pos (g : Fin 64) : 0 < top (fun a => I.met g a * I.pos g a) + e9 :=
  lt_of_lt_of_le e9_pos (le_add_of_nonneg_left
    (top_of_all (by decide) fun a => mul_nonneg (met_nonneg hI g a) (I.pos_nonneg g a)))

theorem norm_real (g : Fin 64) (a : Fin 8400) : IsR (I.norm g a) := by
  have h0 (a) : 0 ≤ I.met g a * I.pos g a := mul_nonneg (met_nonneg hI g a) (I.pos_nonneg g a)
  have hd := denom_pos hI g
  unfold norm
  by_cases h : top (fun a => I.met g a * I.pos g a) = ⊤
  · obtain ⟨e, he⟩ := e9_real
    rw [h, he, EReal.top_add_coe, div_top]
    exact IsR.zero
  · have real (a) : IsR (I.met g a * I.pos g a) := IsR.of_bounds (lt_of_lt_of_le EReal.bot_lt_zero (h0 a))
      ((le_top' (fun a => I.met g a * I.pos g a) a).trans_lt (lt_top_iff_ne_top.mpr h))
    exact IsR.div ((real a).mul (top_of_all (by decide) fun a => (I.ovl_real g a).mul (I.pos_real g a)))
      ((top_of_all (by decide) real).add e9_real) hd.ne'

theorem scale_real (a : Fin 8400) : IsR (I.scale a) := top_of_all (by decide) fun g => norm_real hI g a

end Image

end Cert.Assign

end
-- ==== Proof.Rounds.lean ====
/- The kernel's selection, in words: the least position that satisfies a condition, and one round of taking the
   largest value that is left. -/
module

public import proofs.«01_k».proof.Proof.Facts
public import Idealize.ShloMosaic.Lib.PlanTiles.Rows
public import Idealize.ShloMosaic.Lib.Pointwise

@[expose] public section

noncomputable section

namespace Cert.Assign

open Idealize.ShloMosaic

/-- The words' smallest, where the words are naturals below 2³¹. -/
theorem fold_minsi {ι : Type} [DecidableEq ι] (s : Finset ι) (f : ι → ℕ) (z : ℕ) (hz : z < 2 ^ 31) (hf : ∀ i, f i < 2 ^ 31) :
    s.fold IntOp.minsi (BitVec.ofNat 32 z) (fun i => BitVec.ofNat 32 (f i)) = BitVec.ofNat 32 (s.fold min z f) := by
  induction s using Finset.induction_on with
  | empty => rfl
  | insert a s ha ih =>
    rw [Finset.fold_insert ha, Finset.fold_insert ha, ih, PlanTiles.minsi_word (hf a), min_comm]
    exact lt_of_le_of_lt ((Finset.fold_min_le _).mpr (Or.inl le_rfl)) hz

variable {n : ℕ}

/-- The least position at which `p` holds, as the kernel finds it: the smallest of the positions' words, the word of
    the number of positions standing where `p` does not hold. -/
def least (n : ℕ) (p : Fin n → Prop) [DecidablePred p] : BitVec 32 :=
  Finset.univ.fold IntOp.minsi 2147483647#32 fun x => if p x then BitVec.ofNat 32 x else BitVec.ofNat 32 n

theorem least_eq (hn : n < 2 ^ 31) (p : Fin n → Prop) [DecidablePred p] :
    least n p = BitVec.ofNat 32 (Finset.univ.fold min 2147483647 fun x : Fin n => if p x then (x : ℕ) else n) := by
  rw [← fold_minsi _ _ _ (by norm_num) (fun i => by split <;> omega)]
  unfold least
  congr 1
  funext x
  split <;> rfl

theorem least_of_first (hn : n < 2 ^ 31) (p : Fin n → Prop) [DecidablePred p] (i : Fin n) (hi : p i)
    (hmin : ∀ j, p j → i ≤ j) : least n p = BitVec.ofNat 32 i := by
  rw [least_eq hn]
  congr 1
  apply le_antisymm
  · exact (Finset.fold_min_le _).mpr (Or.inr ⟨i, Finset.mem_univ i, by rw [if_pos hi]⟩)
  · refine (Finset.le_fold_min _).mpr ⟨by omega, fun j _ => ?_⟩
    split
    · exact hmin j ‹_›
    · exact i.2.le

theorem least_of_none (hn : n < 2 ^ 31) (h0 : 0 < n) (p : Fin n → Prop) [DecidablePred p] (h : ∀ j, ¬ p j) :
    least n p = BitVec.ofNat 32 n := by
  rw [least_eq hn]
  congr 1
  apply le_antisymm
  · exact (Finset.fold_min_le _).mpr (Or.inr ⟨⟨0, h0⟩, Finset.mem_univ _, by rw [if_neg (h _)]⟩)
  · refine (Finset.le_fold_min _).mpr ⟨by omega, fun j _ => ?_⟩
    rw [if_neg (h j)]

theorem word_eq_iff (hn : n < 2 ^ 31) (i j : Fin n) : BitVec.ofNat 32 i = BitVec.ofNat 32 j ↔ i = j := by
  refine ⟨fun h => ?_, fun h => h ▸ rfl⟩
  have := congrArg BitVec.toNat h
  rw [BitVec.toNat_ofNat, BitVec.toNat_ofNat, Nat.mod_eq_of_lt (by omega), Nat.mod_eq_of_lt (by omega)] at this
  exact Fin.ext this

/-- Words of small naturals compared. -/
theorem word_test (hn : n < 2 ^ 31) (i j : Fin n) :
    IntOp.cmpi CmpIPredicate.eq (BitVec.ofNat 32 i) (BitVec.ofNat 32 j) = BitVec.ofBool (decide (i = j)) := by
  unfold IntOp.cmpi
  simp only
  congr 1
  rw [Bool.eq_iff_iff]
  simp [word_eq_iff hn]

/-- Rank zero: the value is the largest, and no lower position has it. -/
theorem rk_zero (f : Fin n → EReal) (i : Fin n) (h : rk f i = 0) :
    f i = top f ∧ ∀ j, f j = top f → i ≤ j := by
  have hle : ∀ j, f j ≤ f i := fun j => by
    by_contra hj
    exact absurd (h ▸ rk_lt (f := f) (i := j) (j := i) (Or.inl (not_le.mp hj))) (Nat.not_lt_zero _)
  have ht := top_of_ge f i hle
  refine ⟨ht.symm, fun j hj => ?_⟩
  by_contra hij
  exact absurd (h ▸ rk_lt (f := f) (i := j) (j := i) (Or.inr ⟨hj.trans ht, not_le.mp hij⟩)) (Nat.not_lt_zero _)

/-- The first position of the largest value has rank zero. -/
theorem least_top (hn : n < 2 ^ 31) (f : Fin n → EReal) (i : Fin n) (h : rk f i = 0) :
    least n (fun x => f x = top f) = BitVec.ofNat 32 i :=
  least_of_first hn _ i (rk_zero f i h).1 (rk_zero f i h).2

/-- What is left after `r` rounds: the values of the positions of rank below `r` are replaced by -1. -/
def left (f : Fin n → EReal) (r : ℕ) (a : Fin n) : EReal :=
  if rk f a < r then Ideal.ofBits .f32 0xBF800000#32 else f a

/-- One round: the first position of the largest value that is left gets -1. -/
def round (w : Fin n → EReal) (a : Fin n) : EReal :=
  if BitVec.ofNat 32 a = least n (fun x => w x = top w) then Ideal.ofBits .f32 0xBF800000#32 else w a

theorem neg_one_lt : Ideal.ofBits .f32 0xBF800000#32 < 0 := by
  rw [word_neg_one, ← EReal.coe_zero, EReal.coe_lt_coe_iff]; norm_num

theorem left_zero (f : Fin n → EReal) : left f 0 = f := by
  funext a; rw [left, if_neg (Nat.not_lt_zero _)]

theorem round_left (hn : n < 2 ^ 31) (f : Fin n → EReal) (hf : ∀ a, 0 ≤ f a) (r : ℕ) (hr : r < n) :
    round (left f r) = left f (r + 1) := by
  obtain ⟨i, hi⟩ := exists_rk f hr
  have hii : left f r i = f i := if_neg (by omega)
  have hge : ∀ j, left f r j ≤ left f r i := fun j => by
    rw [hii]
    unfold left
    split
    · exact neg_one_lt.le.trans (hf i)
    · by_contra hj
      have := rk_lt (f := f) (i := j) (j := i) (Or.inl (not_le.mp hj))
      omega
  have ht : top (left f r) = f i := (top_of_ge _ i hge).trans hii
  have hl : least n (fun x => left f r x = top (left f r)) = BitVec.ofNat 32 i := by
    refine least_of_first hn _ i (by rw [ht, hii]) fun j hj => ?_
    rw [ht] at hj
    by_contra hij
    unfold left at hj
    split at hj
    · exact absurd (hj ▸ neg_one_lt) (not_lt.mpr (hf i))
    · have := rk_lt (f := f) (i := j) (j := i) (Or.inr ⟨hj, not_le.mp hij⟩)
      omega
  funext a
  unfold round
  rw [hl]
  by_cases e : a = i
  · subst e
    rw [if_pos rfl, left, if_pos (by omega)]
  · rw [if_neg (fun h => e ((word_eq_iff hn a i).mp h))]
    have : rk f a ≠ r := fun h => e (rk_injective f (h.trans hi.symm))
    unfold left
    by_cases h : rk f a < r
    · rw [if_pos h, if_pos (by omega)]
    · rw [if_neg h, if_neg (by omega)]

/-- After `r` rounds the negative values are those of rank below `r`. -/
theorem left_neg (f : Fin n → EReal) (hf : ∀ a, 0 ≤ f a) (r : ℕ) (a : Fin n) : left f r a < 0 ↔ rk f a < r := by
  unfold left
  split
  · exact ⟨fun _ => ‹_›, fun _ => neg_one_lt⟩
  · exact ⟨fun h => absurd h (not_lt.mpr (hf a)), fun h => absurd h ‹_›⟩

end Cert.Assign

end
-- ==== Proof.KernelOverlap.lean ====
/- The kernel's overlaps, read at a true box and an anchor. -/
module

public import proofs.«01_k».proof.Proof.Gen.KernelIdeal.Skeleton
public import proofs.«01_k».proof.Proof.Rounds
public import Idealize.ShloMosaic.Lib.Pointwise

@[expose] public section

set_option maxRecDepth 16384

noncomputable section

namespace Cert.Assign

open Idealize.ShloMosaic Cert.KernelIdeal Cert.KernelIdeal.Gen

/-- The image that the kernel's blocks hold: anchors' coordinates, true boxes, predicted boxes and scores, the last
    two with the anchors along the lanes. -/
abbrev image (v0 v2 : Vec Ideal S1x8400 .f32) (v4 : Vec Ideal S1x64x4 .f32) (v10 : Vec Ideal S1x4x8400 .f32)
    (v223 : Vec Ideal S1x80x8400 .f32) (lab : Fin 64 → Fin 80) : Image where
  gb g k := v4 (ix3 0 g k)
  lab := lab
  pb a k := v10 (ix3 0 k a)
  ax a := v0 (ix2 0 a)
  ay a := v2 (ix2 0 a)
  sc a c := v223 (ix3 0 c a)

variable (v0 v2 : Vec Ideal S1x8400 .f32) (v4 : Vec Ideal S1x64x4 .f32) (v10 : Vec Ideal S1x4x8400 .f32)

/-- A true box, and a predicted one. -/
abbrev tbox (g : Fin 64) : Box := fun k => v4 (ix3 0 g k)
abbrev pbox (a : Fin 8400) : Box := fun k => v10 (ix3 0 k a)

section coordinates

variable (g : Fin 64) (a : Fin 8400) (z : Fin 1)

theorem gx1_at : k0_pay5 v4 (ix2 g z) = tbox v4 g 0 := by pointwise [k0_pay5, k0_pay4]
theorem gy1_at : k0_pay6 v4 (ix2 g z) = tbox v4 g 1 := by pointwise [k0_pay6, k0_pay4]
theorem gx2_at : k0_pay7 v4 (ix2 g z) = tbox v4 g 2 := by pointwise [k0_pay7, k0_pay4]
theorem gy2_at : k0_pay8 v4 (ix2 g z) = tbox v4 g 3 := by pointwise [k0_pay8, k0_pay4]
theorem px1_at : k0_pay10 v10 (ix2 z a) = pbox v10 a 0 := by pointwise [k0_pay10, k0_pay9]
theorem py1_at : k0_pay11 v10 (ix2 z a) = pbox v10 a 1 := by pointwise [k0_pay11, k0_pay9]
theorem px2_at : k0_pay12 v10 (ix2 z a) = pbox v10 a 2 := by pointwise [k0_pay12, k0_pay9]
theorem py2_at : k0_pay13 v10 (ix2 z a) = pbox v10 a 3 := by pointwise [k0_pay13, k0_pay9]

theorem gw_at : k0_pay15 v4 (ix2 g z) = wid (tbox v4 g) := by
  pointwise [k0_pay15]; rw [gx1_at, gx2_at]; rfl
theorem gh_at : k0_pay16 v4 (ix2 g z) = hgt (tbox v4 g) := by
  pointwise [k0_pay16]; rw [gy1_at, gy2_at]; rfl
theorem pw_at : k0_pay17 v10 (ix2 z a) = wid (pbox v10 a) := by
  pointwise [k0_pay17]; rw [px1_at, px2_at]; rfl
theorem ph_at : k0_pay18 v10 (ix2 z a) = hgt (pbox v10 a) := by
  pointwise [k0_pay18]; rw [py1_at, py2_at]; rfl

end coordinates

variable (g : Fin 64) (a : Fin 8400)

/-- The kernel's test that an anchor lies inside a true box. -/
theorem inside_at (v223 : Vec Ideal S1x80x8400 .f32) (lab : Fin 64 → Fin 80) : k0_pay14 v0 v2 v4 (ix2 g a) =
    BitVec.ofBool (decide ((image v0 v2 v4 v10 v223 lab).inside g a)) := by
  pointwise [k0_pay14]
  rw [gx1_at, gx2_at, gy1_at, gy2_at]
  rfl

theorem iou_at : k0_pay22 (F := Ideal) (k0_pay6 v4) (k0_pay8 v4) (k0_pay11 v10) (k0_pay13 v10) (k0_pay15 v4) (k0_pay16 v4)
    (k0_pay17 v10) (k0_pay18 v10) (k0_pay19 v4 v10) (k0_pay20 v4) (k0_pay21 v10) (ix2 g a) =
    iou (tbox v4 g) (pbox v10 a) := by
  pointwise [k0_pay22, k0_pay19, k0_pay20, k0_pay21]
  rw [gx1_at, gx2_at, gy1_at, gy2_at, px1_at, px2_at, py1_at, py2_at, gw_at, gh_at, pw_at, ph_at]
  rfl

theorem hull_at : k0_pay23 (F := Ideal) (k0_pay5 v4) (k0_pay6 v4) (k0_pay7 v4) (k0_pay8 v4) (k0_pay10 v10) (k0_pay11 v10)
    (k0_pay12 v10) (k0_pay13 v10) (ix2 g a) = hull (tbox v4 g) (pbox v10 a) := by
  pointwise [k0_pay23]
  rw [gx1_at, gx2_at, gy1_at, gy2_at, px1_at, px2_at, py1_at, py2_at]
  rfl

theorem dist_at : k0_pay26 (F := Ideal) (k0_pay24 (k0_pay5 v4) (k0_pay7 v4) (k0_pay10 v10) (k0_pay12 v10))
    (k0_pay25 (k0_pay6 v4) (k0_pay8 v4) (k0_pay11 v10) (k0_pay13 v10)) (ix2 g a) = dist (tbox v4 g) (pbox v10 a) := by
  pointwise [k0_pay26, k0_pay24, k0_pay25]
  rw [gx1_at, gx2_at, gy1_at, gy2_at, px1_at, px2_at, py1_at, py2_at]
  rfl

/-- The kernel's arctangent. -/
abbrev kangle (x : EReal) : EReal := angle horner (fun x => max x (Ideal.ofBits .f32 0x0DA24260#32)) x

theorem gangle_at (w h : FVec Ideal S64x1 .f32) (z : Fin 1) :
    k0_pay33 (k0_pay28 w h) (k0_pay30 w h) (k0_pay31 w h) k0_pay32 (ix2 g z) =
      kangle (Ideal.div (w (ix2 g z)) (h (ix2 g z))) := by
  pointwise [k0_pay33, k0_pay32, k0_pay31, k0_pay30, k0_pay29, k0_pay28, k0_pay27]
  rfl

/-- The parts of the predicted boxes' arctangents, put together as the overlap does it. -/
theorem pangle_at (w h : FVec Ideal S1x8400 .f32) :
    Scalar.select (k0_pay35 w h (ix2 0 a))
      (halfPi - Scalar.select (k0_pay37 w h (ix2 0 a)) (quarterPi + k0_pay38 w h (ix2 0 a)) (k0_pay38 w h (ix2 0 a)))
      (Scalar.select (k0_pay37 w h (ix2 0 a)) (quarterPi + k0_pay38 w h (ix2 0 a)) (k0_pay38 w h (ix2 0 a))) =
      kangle (Ideal.div (w (ix2 0 a)) (h (ix2 0 a))) := by
  pointwise [k0_pay38, k0_pay37, k0_pay36, k0_pay35, k0_pay34]
  rfl

/-- The kernel's overlaps, over its blocks. -/
abbrev kovl : FVec Ideal S64x8400 .f32 :=
  k0_pay39 (k0_pay14 v0 v2 v4)
    (k0_pay22 (k0_pay6 v4) (k0_pay8 v4) (k0_pay11 v10) (k0_pay13 v10) (k0_pay15 v4) (k0_pay16 v4)
      (k0_pay17 v10) (k0_pay18 v10) (k0_pay19 v4 v10) (k0_pay20 v4) (k0_pay21 v10))
    (k0_pay23 (k0_pay5 v4) (k0_pay6 v4) (k0_pay7 v4) (k0_pay8 v4) (k0_pay10 v10) (k0_pay11 v10)
      (k0_pay12 v10) (k0_pay13 v10))
    (k0_pay26 (k0_pay24 (k0_pay5 v4) (k0_pay7 v4) (k0_pay10 v10) (k0_pay12 v10))
      (k0_pay25 (k0_pay6 v4) (k0_pay8 v4) (k0_pay11 v10) (k0_pay13 v10)))
    (k0_pay33 (k0_pay28 (k0_pay15 v4) (k0_pay16 v4)) (k0_pay30 (k0_pay15 v4) (k0_pay16 v4))
      (k0_pay31 (k0_pay15 v4) (k0_pay16 v4)) k0_pay32)
    (k0_pay35 (k0_pay17 v10) (k0_pay18 v10)) (k0_pay37 (k0_pay17 v10) (k0_pay18 v10))
    (k0_pay38 (k0_pay17 v10) (k0_pay18 v10))

variable (v223 : Vec Ideal S1x80x8400 .f32) (lab : Fin 64 → Fin 80)

theorem ovl_at : kovl v0 v2 v4 v10 (ix2 g a) = (image v0 v2 v4 v10 v223 lab).ovl g a := by
  unfold kovl
  pointwise [k0_pay39]
  rw [pangle_at, gangle_at, gw_at, gh_at, pw_at, ph_at, inside_at v0 v2 v4 v10 g a v223 lab, iou_at, hull_at, dist_at,
    mul_assoc fourOverPiSq, max_comm]
  unfold Image.ovl
  by_cases h : (image v0 v2 v4 v10 v223 lab).inside g a
  · obtain ⟨hx, hy⟩ := Image.inside_order h
    rw [angle_square (ratio_ne_bot hx hy) word_tiny_le_one, if_pos h, decide_eq_true h]
    rfl
  · rw [if_neg h, decide_eq_false h]; rfl

/-- The kernel's metric, over its blocks. -/
abbrev kmet (v215 : Vec Ideal S1x64x1 .i32) : FVec Ideal S64x8400 .f32 :=
  k0_pay41 (k0_pay14 v0 v2 v4)
    (k0_pay22 (k0_pay6 v4) (k0_pay8 v4) (k0_pay11 v10) (k0_pay13 v10) (k0_pay15 v4) (k0_pay16 v4)
      (k0_pay17 v10) (k0_pay18 v10) (k0_pay19 v4 v10) (k0_pay20 v4) (k0_pay21 v10))
    (k0_pay23 (k0_pay5 v4) (k0_pay6 v4) (k0_pay7 v4) (k0_pay8 v4) (k0_pay10 v10) (k0_pay11 v10)
      (k0_pay12 v10) (k0_pay13 v10))
    (k0_pay26 (k0_pay24 (k0_pay5 v4) (k0_pay7 v4) (k0_pay10 v10) (k0_pay12 v10))
      (k0_pay25 (k0_pay6 v4) (k0_pay8 v4) (k0_pay11 v10) (k0_pay13 v10)))
    (k0_pay33 (k0_pay28 (k0_pay15 v4) (k0_pay16 v4)) (k0_pay30 (k0_pay15 v4) (k0_pay16 v4))
      (k0_pay31 (k0_pay15 v4) (k0_pay16 v4)) k0_pay32)
    (k0_pay35 (k0_pay17 v10) (k0_pay18 v10)) (k0_pay37 (k0_pay17 v10) (k0_pay18 v10))
    (k0_pay38 (k0_pay17 v10) (k0_pay18 v10)) v215 v223

/-- A bit, widened and converted to a float, is one or zero. -/
theorem bit_float (p : Prop) [Decidable p] :
    (FloatOps.sitofp FTy.f32 (BitVec.setWidth 32 (BitVec.ofBool (decide p))) : Ideal .f32) = if p then 1 else 0 := by
  by_cases h : p
  · rw [decide_eq_true h, if_pos h]
    change ((((BitVec.setWidth 32 (BitVec.ofBool true)).toInt : ℝ)) : EReal) = 1
    simp
  · rw [decide_eq_false h, if_neg h]
    change ((((BitVec.setWidth 32 (BitVec.ofBool false)).toInt : ℝ)) : EReal) = 0
    simp

variable (v215 : Vec Ideal S1x64x1 .i32)

/-- The label's one-hot row. -/
theorem onehot_at (hl : ∀ g, v215 (ix3 0 g 0) = BitVec.ofNat 32 (lab g)) (c : Fin 80) :
    k0_pay40 (F := Ideal) v215 (ix2 g c) = if lab g = c then 1 else 0 := by
  pointwise [k0_pay40]
  rw [hl, word_test (by norm_num)]
  exact bit_float _

theorem met_at (hl : ∀ g, v215 (ix3 0 g 0) = BitVec.ofNat 32 (lab g)) :
    kmet v0 v2 v4 v10 v223 v215 (ix2 g a) = (image v0 v2 v4 v10 v223 lab).met g a := by
  have ho := ovl_at v0 v2 v4 v10 g a v223 lab
  unfold kmet
  pointwise [k0_pay41]
  unfold kovl at ho
  rw [ho, Image.met]
  congr 2
  simp only [onehot_at g lab v215 hl, ite_mul, one_mul, zero_mul, Finset.sum_ite_eq, Finset.mem_univ, if_true]

end Cert.Assign

end
-- ==== Proof.KernelSelect.lean ====
/- The kernel's selection: ten rounds, the candidates, and the box each anchor goes to. -/
module

public import proofs.«01_k».proof.Proof.KernelOverlap

@[expose] public section

set_option maxRecDepth 16384

noncomputable section

namespace Cert.Assign

open Idealize.ShloMosaic Cert.KernelIdeal Cert.KernelIdeal.Gen

/-! ### The rounds -/

/-- The positions along the anchors and along the boxes. -/
abbrev lanes : IVec S64x8400 32 := iota .tc S64x8400 32 [1] iota_S64x8400_d1_w32
abbrev rows : IVec S64x8400 32 := iota .tc S64x8400 32 [0] iota_S64x8400_d0_w32

/-- Where a row holds its largest value. -/
def peaks (w : FVec Ideal S64x8400 .f32) : IVec S64x8400 1 :=
  cmpf .oeq w (broadcastTo S64x8400 (shapeCast S64x1 (multiReduction .maximumf [1] S64 w 0xFF800000#32
    reduces_S64x8400_S64 (.inl rfl) rfl) shapeCasts_S64_S64x1) broadcasts_S64x1_S64x8400)

/-- The first such position of each row. -/
def firsts (w : FVec Ideal S64x8400 .f32) : IVec S64x8400 1 :=
  cmpi .eq lanes (broadcastTo S64x8400 (shapeCast S64x1 (multiReductionI .minsi [1] S64
    (select (peaks w) lanes (broadcast S64x8400 8400#32)) 2147483647#32 reduces_S64x8400_S64 rfl)
    shapeCasts_S64_S64x1) broadcasts_S64x1_S64x8400)

/-- One round over all rows. -/
def step (w : FVec Ideal S64x8400 .f32) : FVec Ideal S64x8400 .f32 :=
  select (firsts w) (broadcast S64x8400 (Scalar.ofBits .f32 0xBF800000#32)) w

theorem select_eq {n : ℕ} (x y : BitVec n) (u v : EReal) :
    Scalar.select (IntOp.cmpi .eq x y) u v = if x = y then u else v := by
  by_cases h : x = y
  · subst h; rw [if_pos rfl]; simp [Scalar.select, IntOp.cmpi]
  · rw [if_neg h]; simp [Scalar.select, IntOp.cmpi, beq_eq_false_iff_ne.mpr h]

theorem step_at (w : FVec Ideal S64x8400 .f32) (g : Fin 64) (a : Fin 8400) :
    step w (ix2 g a) = round (fun x => w (ix2 g x)) a := by
  pointwise [step, firsts, peaks]
  exact select_eq _ _ _ _

/-- The rows of `w` are the families `f` after `r` rounds. -/
def Left (f : Fin 64 → Fin 8400 → EReal) (r : ℕ) (w : FVec Ideal S64x8400 .f32) : Prop :=
  ∀ g a, w (ix2 g a) = left (f g) r a

/-- A round takes each row one rank further. -/
theorem Left.step {f : Fin 64 → Fin 8400 → EReal} (hf : ∀ g a, 0 ≤ f g a) {r : ℕ} (hr : r < 8400)
    {w : FVec Ideal S64x8400 .f32} (hw : Left f r w) : Left f (r + 1) (step w) := fun g a => by
  rw [step_at, ← round_left (by norm_num) (f g) (hf g) r hr]
  congr 1
  exact funext fun x => hw g x

theorem four_rounds (w : FVec Ideal S64x8400 .f32) :
    k0_pay43 w lanes (peaks w) 8400#32 = step (step (step (step w))) := rfl

theorem three_rounds (w : FVec Ideal S64x8400 .f32) :
    k0_pay45 lanes w (multiReduction .maximumf [1] S64 w 0xFF800000#32 reduces_S64x8400_S64 (.inl rfl) rfl) =
      step (step (step w)) := rfl

theorem eighth_round (w : FVec Ideal S64x8400 .f32) :
    k0_pay46 lanes w (multiReduction .maximumf [1] S64 w 0xFF800000#32 reduces_S64x8400_S64 (.inl rfl) rfl) =
      firsts (step (step (step w))) := rfl

/-- The rows of `w` after ten rounds. -/
abbrev tenth (w : FVec Ideal S64x8400 .f32) : FVec Ideal S64x8400 .f32 :=
  step (step (step (step (step (step (step (step (step (step w)))))))))

/-- The anchors inside whose value the rounds replaced. -/
def chosen (v32 : IVec S64x8400 1) (w : FVec Ideal S64x8400 .f32) : FVec Ideal S64x8400 .f32 :=
  select (andi v32 (cmpf .olt w (broadcast S64x8400 (Scalar.ofBits .f32 0x00000000#32))))
    (broadcast S64x8400 (Scalar.ofBits .f32 0x3F800000#32)) (broadcast S64x8400 (Scalar.ofBits .f32 0x00000000#32))

theorem last_rounds (v32 : IVec S64x8400 1) (w : FVec Ideal S64x8400 .f32) :
    k0_pay47 v32 lanes w (firsts w) (Scalar.ofBits .f32 0xBF800000#32) = chosen v32 (step (step (step w))) := rfl

theorem Left.tenth {f : Fin 64 → Fin 8400 → EReal} (hf : ∀ g a, 0 ≤ f g a) {w : FVec Ideal S64x8400 .f32}
    (hw : Left f 0 w) : Left f 10 (tenth w) :=
  (((((((((hw.step hf (by norm_num)).step hf (by norm_num)).step hf (by norm_num)).step hf (by norm_num)).step hf
    (by norm_num)).step hf (by norm_num)).step hf (by norm_num)).step hf (by norm_num)).step hf (by norm_num)).step hf
    (by norm_num)

/-- The ten best of each row, among the anchors inside. -/
theorem chosen_at {f : Fin 64 → Fin 8400 → EReal} (hf : ∀ g a, 0 ≤ f g a) {w : FVec Ideal S64x8400 .f32}
    (hw : Left f 10 w) (p : Fin 64 → Fin 8400 → Prop) [∀ g a, Decidable (p g a)] (v32 : IVec S64x8400 1)
    (hp : ∀ g a, v32 (ix2 g a) = BitVec.ofBool (decide (p g a))) (g : Fin 64) (a : Fin 8400) :
    chosen v32 w (ix2 g a) = if rk (f g) a < 10 ∧ p g a then 1 else 0 := by
  unfold chosen
  pointwise []
  rw [hw, hp]
  have e := left_neg (f g) (hf g) 10 a
  by_cases h : p g a <;> by_cases h' : rk (f g) a < 10 <;> simp [h, h', e, Scalar.select, IntOp.andi]

end Cert.Assign

end
-- ==== Proof.KernelAssign.lean ====
/- The kernel's assignment: what it computes from the overlaps, the metric and the candidates. -/
module

public import proofs.«01_k».proof.Proof.KernelSelect

@[expose] public section

set_option maxRecDepth 16384

noncomputable section

namespace Cert.Assign

open Idealize.ShloMosaic Cert.KernelIdeal Cert.KernelIdeal.Gen

/-- The first of the best, found as the least position of the largest value, is the one of rank zero. -/
theorem first_test {n : ℕ} (hn : n < 2 ^ 31) (f : Fin n → EReal) (i j : Fin n) (hj : rk f j = 0) :
    IntOp.cmpi .eq (BitVec.ofNat 32 i) (least n fun x => f x = top f) = BitVec.ofBool (decide (rk f i = 0)) := by
  rw [least_top hn f j hj, word_test hn]
  congr 1
  exact decide_eq_decide.mpr ⟨fun h => h ▸ hj, fun h => rk_injective f (h.trans hj.symm)⟩

/-- The word of the box an anchor goes to: the first box that has it, and box zero where none has. -/
theorem sel_word (I : Image) (a : Fin 8400) :
    Scalar.select (IntOp.cmpi .sge (least 64 fun g => 0 < I.pos g a) 64#32) 0#32 (least 64 fun g => 0 < I.pos g a) =
      BitVec.ofNat 32 (I.sel a) := by
  obtain ⟨hs, hmin⟩ := rk_zero _ _ (I.rk_sel a)
  by_cases h : ∃ g, 0 < I.pos g a
  · obtain ⟨g, hg⟩ := h
    have hle : I.pos g a ≤ I.pos (I.sel a) a := by rw [hs]; exact le_top' (fun g => I.pos g a) g
    have h1 : I.pos (I.sel a) a = 1 := (I.pos_cases _ a).resolve_left fun h => absurd (h ▸ hg.trans_le hle) (lt_irrefl _)
    have hl : least 64 (fun g => 0 < I.pos g a) = BitVec.ofNat 32 (I.sel a) :=
      least_of_first (by norm_num) _ _ (hg.trans_le hle) fun j hj =>
        hmin j (by rw [← hs, h1]; exact (I.pos_cases j a).resolve_left fun h => absurd (h ▸ hj) (lt_irrefl _))
    rw [hl]
    generalize I.sel a = i
    revert i
    decide
  · have h0 : ∀ g, I.pos g a = 0 := fun g => (I.pos_cases g a).resolve_right fun h1 => h ⟨g, by rw [h1]; exact zero_lt_one⟩
    have hl : least 64 (fun g => 0 < I.pos g a) = BitVec.ofNat 32 64 :=
      least_of_none (by norm_num) (by norm_num) _ fun g hg => h ⟨g, hg⟩
    have hz : I.sel a = 0 := Fin.le_zero_iff.mp (hmin 0 (by rw [← hs, h0, h0]))
    rw [hl, hz]
    decide

variable {I : Image} {v214 v230 v357 : FVec Ideal S64x8400 .f32} {v359 : FVec Ideal S1x8400 .f32} {v370 : IVec S64x8400 1}

theorem best_at (ho : ∀ g a, v214 (ix2 g a) = I.ovl g a) (g : Fin 64) (a : Fin 8400) :
    k0_pay49 v214 (ix2 g a) = BitVec.ofBool (decide (rk (fun g => I.ovl g a) g = 0)) := by
  obtain ⟨j, hj⟩ := exists_rk (fun g => I.ovl g a) (r := 0) (by decide)
  rw [← first_test (by norm_num) _ g j hj]
  pointwise [k0_pay49]
  simp only [ho]
  rfl

theorem cnt0_at {v32 : IVec S64x8400 1} {v231 : IVec S64x8400 32} {v315 : FVec Ideal S64x8400 .f32}
    {v325 : IVec S64x8400 1} {c : EReal} (h0 : ∀ g a, k0_pay47 v32 v231 v315 v325 c (ix2 g a) = I.pos0 g a)
    (z : Fin 1) (a : Fin 8400) : k0_pay48 (F := Ideal) v32 v231 v315 v325 c (ix2 z a) = I.cnt0 a := by
  pointwise [k0_pay48]
  exact Finset.sum_congr rfl fun g _ => h0 g a

section assigned

variable (h0 : ∀ g a, v357 (ix2 g a) = I.pos0 g a) (hc : ∀ z a, v359 (ix2 z a) = I.cnt0 a)
  (hb : ∀ g a, v370 (ix2 g a) = BitVec.ofBool (decide (rk (fun g => I.ovl g a) g = 0)))

include h0 hc hb

theorem pos_at (g : Fin 64) (a : Fin 8400) : k0_pay50 v357 v359 v370 (ix2 g a) = I.pos g a := by
  pointwise [k0_pay50]
  rw [hc, hb, h0, bit_float]
  rfl

theorem cnt_at (z : Fin 1) (a : Fin 8400) : k0_pay51 v357 v359 v370 (ix2 z a) = I.cnt a := by
  pointwise [k0_pay51]
  exact Finset.sum_congr rfl fun g _ => pos_at h0 hc hb g a

theorem scale_at (hI : I.Good) (ho : ∀ g a, v214 (ix2 g a) = I.ovl g a) (hm : ∀ g a, v230 (ix2 g a) = I.met g a)
    (z : Fin 1) (a : Fin 8400) :
    k0_pay52 v214 v230 v357 v359 v370 (ix2 z a) = if 0 < I.cnt a then I.scale a else 0 := by
  pointwise [k0_pay52]
  simp only [cnt_at h0 hc hb, pos_at h0 hc hb, ho, hm]
  congr 1
  unfold Image.scale top
  congr 1
  funext g
  exact mul_div (I.denom_pos hI g).ne'

theorem first_at (g : Fin 64) (a : Fin 8400) :
    k0_pay53 v357 v359 rows v370 (ix2 g a) = if I.sel a = g then 1 else 0 := by
  pointwise [k0_pay53]
  simp only [pos_at h0 hc hb]
  rw [← bit_float (I.sel a = g), ← decide_eq_decide.mpr (eq_comm (a := g) (b := I.sel a)), ← word_test (by norm_num),
    ← sel_word]
  rfl

end assigned

/-! ### The blocks the kernel stores -/

variable (v4 : Vec Ideal S1x64x4 .f32) {v411 : FVec Ideal S64x8400 .bf16}
  (h1 : ∀ g a, v411 (ix2 g a) = if I.sel a = g then 1 else 0)

include h1

theorem boxes_at (hI : I.Good) (hg : ∀ g k, v4 (ix3 0 g k) = I.gb g k) (z : Fin 1) (k : Fin 4) (a : Fin 8400) :
    k0_pay1 v411 (k0_pay54 (k0_pay4 v4)) (ix3 z k a) = I.boxes a k := by
  pointwise [k0_pay1, k0_pay54, k0_pay4]
  simp only [h1, hg, zero_mul, Finset.sum_const_zero, add_zero, mul_ite, mul_one, mul_zero,
    Finset.sum_ite_eq, Finset.mem_univ, if_true]
  exact add_sub_self (hI.gb _ _)

theorem scores_at (hI : I.Good) (v222 : FVec Ideal S64x80 .f32)
    (hl : ∀ g c, v222 (ix2 g c) = if I.lab g = c then 1 else 0) (v410 : FVec Ideal S1x8400 .f32)
    (hs : ∀ z a, v410 (ix2 z a) = if 0 < I.cnt a then I.scale a else 0) (z : Fin 1) (c : Fin 80) (a : Fin 8400) :
    k0_pay2 v222 v410 v411 (ix3 z c a) = I.scores a c := by
  pointwise [k0_pay2]
  have hr : IsR (if 0 < I.cnt a then I.scale a else 0) := (I.scale_real hI a).ite .zero
  simp only [h1, hl, hs, hr.sub_self, mul_zero, Finset.sum_const_zero, add_zero]
  simp only [ite_mul, one_mul, zero_mul, mul_ite, mul_zero, Finset.sum_ite_eq, Finset.mem_univ, if_true]
  rw [Image.scores]
  by_cases h : 0 < I.cnt a <;> simp [h]

omit h1 in
theorem counts_at (v379 : FVec Ideal S1x8400 .f32) (hc : ∀ z a, v379 (ix2 z a) = I.cnt a) (z z' : Fin 1)
    (a : Fin 8400) : k0_pay3 v379 (ix3 z z' a) = I.cnt a := by
  pointwise [k0_pay3]
  exact hc _ a

end Cert.Assign

end
-- ==== Proof.KernelBlock.lean ====
/- What the kernel's body leaves in its three output blocks, of the five blocks it reads. -/
module

public import proofs.«01_k».proof.Proof.KernelAssign
public import proofs.«01_k».proof.Proof.Gen.KernelIdeal.Frame
public import Idealize.ShloMosaic.Lib.Pipeline.ValueKit

@[expose] public section

set_option maxRecDepth 16384

noncomputable section

namespace Cert.Assign

open Idealize.ShloMosaic Cert.KernelIdeal Cert.KernelIdeal.Gen

variable (x0 : Vec Ideal S1x80x8400 .f32) (x1 : Vec Ideal S1x4x8400 .f32) (x2 : Vec Ideal S2x8400 .f32)
  (x3 : Vec Ideal S1x64x1 .i32) (x4 : Vec Ideal S1x64x4 .f32) (lab : Fin 64 → Fin 80)

/-- The image that the blocks hold. -/
abbrev blocks : Image := image (View.ld x2 r0_0) (View.ld x2 r0_1) (View.ld x4 r0_2) (View.ld x1 r0_3) (View.ld x0 r0_5) lab

theorem inside_block (g : Fin 64) (a : Fin 8400) : k0_pay63 x0 x1 x2 x3 x4 (ix2 g a) =
    BitVec.ofBool (decide ((blocks x0 x1 x2 x4 lab).inside g a)) :=
  inside_at _ _ _ _ g a _ lab

variable (hI : (blocks x0 x1 x2 x4 lab).Good) (hl : ∀ g, View.ld x3 r0_4 (ix3 0 g 0) = BitVec.ofNat 32 (lab g))

theorem ovl_block (g : Fin 64) (a : Fin 8400) : k0_pay76 x0 x1 x2 x3 x4 (ix2 g a) = (blocks x0 x1 x2 x4 lab).ovl g a :=
  ovl_at _ _ _ _ g a _ lab

include hl

theorem met_block (g : Fin 64) (a : Fin 8400) : k0_pay77 x0 x1 x2 x3 x4 (ix2 g a) = (blocks x0 x1 x2 x4 lab).met g a :=
  met_at _ _ _ _ g a _ lab _ hl

include hI

/-- The candidates, through the ten rounds. -/
theorem pos0_block (g : Fin 64) (a : Fin 8400) : k0_pay83 x0 x1 x2 x3 x4 (ix2 g a) = (blocks x0 x1 x2 x4 lab).pos0 g a := by
  have hw : k0_pay83 x0 x1 x2 x3 x4 = chosen (k0_pay63 x0 x1 x2 x3 x4) (tenth (k0_pay77 x0 x1 x2 x3 x4)) := by
    unfold k0_pay83 k0_pay82 k0_pay81 k0_pay80
    have h4 : k0_pay79 x0 x1 x2 x3 x4 = step (step (step (step (k0_pay77 x0 x1 x2 x3 x4)))) := four_rounds _
    have h280 : k0_pay44 (k0_pay77 x0 x1 x2 x3 x4) (k0_pay75 x0 x1 x2 x3 x4) (k0_pay78 x0 x1 x2 x3 x4) 8400#32 =
      multiReduction .maximumf [1] S64 (k0_pay79 x0 x1 x2 x3 x4) 0xFF800000#32 reduces_S64x8400_S64 (.inl rfl) rfl := rfl
    rw [h280, h4]
    show k0_pay47 _ lanes (k0_pay45 lanes _ _) (k0_pay46 lanes _ _) _ = _
    rw [three_rounds, eighth_round, last_rounds]
  rw [hw]
  refine chosen_at (f := (blocks x0 x1 x2 x4 lab).met) (fun g a => Image.met_nonneg hI g a) (Left.tenth (fun g a => Image.met_nonneg hI g a) ?_) _ _
    (inside_block x0 x1 x2 x3 x4 lab) g a
  intro g a
  rw [left_zero, met_block x0 x1 x2 x3 x4 lab hl]

theorem cnt0_block (z : Fin 1) (a : Fin 8400) : k0_pay84 x0 x1 x2 x3 x4 (ix2 z a) = (blocks x0 x1 x2 x4 lab).cnt0 a :=
  cnt0_at (pos0_block x0 x1 x2 x3 x4 lab hI hl) z a

omit hI hl in
theorem best_block (g : Fin 64) (a : Fin 8400) : k0_pay85 x0 x1 x2 x3 x4 (ix2 g a) =
    BitVec.ofBool (decide (rk (fun g => (blocks x0 x1 x2 x4 lab).ovl g a) g = 0)) :=
  best_at (ovl_block x0 x1 x2 x3 x4 lab) g a

theorem first_block (g : Fin 64) (a : Fin 8400) : k0_pay86 x0 x1 x2 x3 x4 (ix2 g a) =
    if (blocks x0 x1 x2 x4 lab).sel a = g then 1 else 0 :=
  first_at (pos0_block x0 x1 x2 x3 x4 lab hI hl) (cnt0_block x0 x1 x2 x3 x4 lab hI hl) (best_block x0 x1 x2 x3 x4 lab) g a

omit hI hl in
theorem zero3 : (![0, 0, 0] : Fin 3 → ℕ) = fun _ => 0 := funext fun a => by fin_cases a <;> rfl

/-- The three blocks. -/
theorem out_boxes (z : Fin 1) (k : Fin 4) (a : Fin 8400) :
    out0_5 x0 x1 x2 x3 x4 (ix3 z k a) = (blocks x0 x1 x2 x4 lab).boxes a k := by
  unfold out0_5
  rw [View.canon_unit_zero zero3]
  exact boxes_at _ (first_block x0 x1 x2 x3 x4 lab hI hl) hI (fun _ _ => rfl) z k a

theorem out_scores (z : Fin 1) (k : Fin 80) (a : Fin 8400) :
    out0_6 x0 x1 x2 x3 x4 (ix3 z k a) = (blocks x0 x1 x2 x4 lab).scores a k := by
  unfold out0_6
  rw [View.canon_unit_zero zero3]
  exact scores_at (first_block x0 x1 x2 x3 x4 lab hI hl) hI _ (fun g c => onehot_at g lab _ hl c) _
    (scale_at (pos0_block x0 x1 x2 x3 x4 lab hI hl) (cnt0_block x0 x1 x2 x3 x4 lab hI hl)
      (best_block x0 x1 x2 x3 x4 lab) hI (ovl_block x0 x1 x2 x3 x4 lab) (met_block x0 x1 x2 x3 x4 lab hl)) z k a

theorem out_counts (z z' : Fin 1) (a : Fin 8400) :
    out0_7 x0 x1 x2 x3 x4 (ix3 z z' a) = (blocks x0 x1 x2 x4 lab).cnt a := by
  unfold out0_7
  rw [View.canon_unit_zero zero3]
  exact counts_at _ (cnt_at (pos0_block x0 x1 x2 x3 x4 lab hI hl) (cnt0_block x0 x1 x2 x3 x4 lab hI hl)
      (best_block x0 x1 x2 x3 x4 lab)) z z' a

end Cert.Assign

end
-- ==== Proof.Images.lean ====
/- The images of a batch, read off whole argument arrays, and the three whole results. -/
module

public import proofs.«01_k».proof.Proof.Spec
public import Idealize.ShloMosaic.Lib.Pointwise

@[expose] public section

noncomputable section

namespace Cert.Assign

open Idealize.ShloMosaic

/-- The arguments' and the results' index sets. -/
abbrev Score := Shape.Idx ⟨3, ![16, 8400, 80]⟩
abbrev Pred := Shape.Idx ⟨3, ![16, 8400, 4]⟩
abbrev Anchor := Shape.Idx ⟨2, ![8400, 2]⟩
abbrev Label := Shape.Idx ⟨3, ![16, 64, 1]⟩
abbrev True4 := Shape.Idx ⟨3, ![16, 64, 4]⟩
abbrev Fore := Shape.Idx ⟨2, ![16, 8400]⟩

/-- Image `b` of the batch. -/
def batch (x0 : Score → EReal) (x1 : Pred → EReal) (x2 : Anchor → EReal) (x4 : True4 → EReal)
    (lab : Fin 16 → Fin 64 → Fin 80) (b : Fin 16) : Image where
  gb g k := x4 (ix3 b g k)
  lab := lab b
  pb a k := x1 (ix3 b a k)
  ax a := x2 (ix2 a 0)
  ay a := x2 (ix2 a 1)
  sc a c := x0 (ix3 b a c)

/-- The results of a batch of images. -/
def allBoxes (I : Fin 16 → Image) : Pred → EReal := fun i => (I (i 0)).boxes (i 1) (i 2)
def allScores (I : Fin 16 → Image) : Score → EReal := fun i => (I (i 0)).scores (i 1) (i 2)
def allTaken (I : Fin 16 → Image) : Fore → BitVec 1 := fun i => (I (i 0)).taken (i 1)

end Cert.Assign

end
-- ==== Proof.KernelArrays.lean ====
/- The kernel program's three results, of its whole argument arrays. -/
module

public import proofs.«01_k».proof.Proof.KernelBlock
public import proofs.«01_k».proof.Proof.Images
public import Idealize.ShloMosaic.Lib.Claim

@[expose] public section

set_option maxRecDepth 16384

noncomputable section

namespace Cert.Assign

open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (lab : Fin 16 → Fin 64 → Fin 80)

/-! ### The arrays the launch finds: three transposed arguments -/

theorem V_v0 : V m c main_v0 =
    transpose S2x8400 [1, 0] (m ((c : Thread nD τ).loc main_arg2)) transposes_S8400x2_S2x8400_1_0 := by
  unfold V V0
  simp only [List.flatten_cons, List.flatten_nil, List.append_nil, hostOps0]
  after_results

theorem V_v1 : V m c main_v1 =
    transpose S16x80x8400 [0, 2, 1] (m ((c : Thread nD τ).loc main_arg0)) transposes_S16x8400x80_S16x80x8400_0_2_1 := by
  unfold V V0
  simp only [List.flatten_cons, List.flatten_nil, List.append_nil, hostOps0]
  after_results

theorem V_v2 : V m c main_v2 =
    transpose S16x4x8400 [0, 2, 1] (m ((c : Thread nD τ).loc main_arg1)) transposes_S16x8400x4_S16x4x8400_0_2_1 := by
  unfold V V0
  simp only [List.flatten_cons, List.flatten_nil, List.append_nil, hostOps0]
  after_results

/-- Each grid point takes one image; the anchors are the same at every point. -/
theorem idx : ∀ t : Fin grid0.N, win0_0.index t = ![t.val, 0, 0] ∧ win0_1.index t = ![t.val, 0, 0] ∧
    win0_2.index t = ![0, 0] ∧ win0_3.index t = ![t.val, 0, 0] ∧ win0_4.index t = ![t.val, 0, 0] ∧
    win0_5.index t = ![t.val, 0, 0] ∧ win0_6.index t = ![t.val, 0, 0] ∧ win0_7.index t = ![t.val, 0, 0] := by
  decide +kernel

/-- The image of a grid point. -/
abbrev img (t : Fin cfg0.N) : Fin 16 := ⟨t.val, t.isLt⟩

variable (t : Fin cfg0.N)

theorem score_block (z : Fin 1) (k : Fin 80) (a : Fin 8400) :
    iblk m c 0 t (ix3 z k a) = m ((c : Thread nD τ).loc main_arg0) (ix3 (img t) a k) := by
  have i := idx t
  blk_simp [iblk, i]
  rw [V_v1]
  pointwise
  blk_ext [i]

theorem pred_block (z : Fin 1) (k : Fin 4) (a : Fin 8400) :
    iblk m c 1 t (ix3 z k a) = m ((c : Thread nD τ).loc main_arg1) (ix3 (img t) a k) := by
  have i := idx t
  blk_simp [iblk, i]
  rw [V_v2]
  pointwise
  blk_ext [i]

theorem anchor_block (k : Fin 2) (a : Fin 8400) :
    iblk m c 2 t (ix2 k a) = m ((c : Thread nD τ).loc main_arg2) (ix2 a k) := by
  have i := idx t
  blk_simp [iblk, i]
  rw [V_v0]
  pointwise
  blk_ext [i]

theorem label_block (z : Fin 1) (g : Fin 64) (k : Fin 1) :
    iblk m c 3 t (ix3 z g k) = m ((c : Thread nD τ).loc main_arg3) (ix3 (img t) g k) := by
  have i := idx t
  blk_simp [iblk, i]
  rw [show V m c main_arg3 = _ from V_main_arg3 m c]
  blk_ext [i]

theorem true_block (z : Fin 1) (g : Fin 64) (k : Fin 4) :
    iblk m c 4 t (ix3 z g k) = m ((c : Thread nD τ).loc main_arg4) (ix3 (img t) g k) := by
  have i := idx t
  blk_simp [iblk, i]
  rw [show V m c main_arg4 = _ from V_main_arg4 m c]
  blk_ext [i]

/-- The batch of the program's arguments. -/
abbrev kbatch : Fin 16 → Image :=
  batch (m ((c : Thread nD τ).loc main_arg0)) (m ((c : Thread nD τ).loc main_arg1)) (m ((c : Thread nD τ).loc main_arg2))
    (m ((c : Thread nD τ).loc main_arg4)) lab

theorem blocks_eq : blocks (iblk m c 0 t) (iblk m c 1 t) (iblk m c 2 t) (iblk m c 4 t) (lab (img t)) = kbatch m c lab (img t) := by
  unfold blocks image kbatch batch
  congr 1
  · funext g k
    rw [View.ld_unit_zero zero3]
    exact true_block m c t 0 g k
  · funext a k
    rw [View.ld_unit_zero zero3]
    exact pred_block m c t 0 k a
  · funext a
    exact (View.ld_unit_apply_of _ _ _ _ _ (ix2 0 a) (fun b => by
      fin_cases b
      · rfl
      · exact (Nat.zero_add _).symm)).trans (anchor_block m c t 0 a)
  · funext a
    exact (View.ld_unit_apply_of _ _ _ _ _ (ix2 1 a) (fun b => by
      fin_cases b
      · rfl
      · exact (Nat.zero_add _).symm)).trans (anchor_block m c t 1 a)
  · funext a k
    rw [View.ld_unit_zero zero3]
    exact score_block m c t 0 k a

/-! ### The output arrays after the run, and the results behind them -/

variable (hI : ∀ b, (kbatch m c lab b).Good)
  (hl : ∀ b g, m ((c : Thread nD τ).loc main_arg3) (ix3 b g 0) = BitVec.ofNat 32 (lab b g))

include hl in
theorem label_read (g : Fin 64) : View.ld (iblk m c 3 t) r0_4 (ix3 0 g 0) = BitVec.ofNat 32 (lab (img t) g) := by
  have e : ∀ x3 : Vec Ideal S1x64x1 .i32, View.ld x3 r0_4 = x3 := fun x3 => View.ld_unit_zero zero3 _ _
  exact (congrFun (e _) _).trans ((label_block m c t 0 g 0).trans (hl _ _))

include hI in
theorem good_block : (blocks (iblk m c 0 t) (iblk m c 1 t) (iblk m c 2 t) (iblk m c 4 t) (lab (img t))).Good := by
  rw [blocks_eq]; exact hI _

include hI hl

theorem boxes_array : (dats m 0 c).arrAt 5 cfg0.N =
    fun i : S16x4x8400.Idx => (kbatch m c lab (i 0)).boxes (i 2) (i 1) := by
  refine (dats m 0 c).arrAt_eq_of_covers 5 _ (by decide +kernel) fun t hf y => ?_
  have e := idx t
  obtain ⟨z, k, a, rfl⟩ : ∃ (z : Fin 1) (k : Fin 4) (a : Fin 8400), y = ix3 z k a := ⟨y 0, y 1, y 2, (ix3_eta y).symm⟩
  blk_simp
  rw [after0_5, out_boxes _ _ _ _ _ (lab (img t)) (good_block m c lab t hI) (label_read m c lab t hl), blocks_eq]
  have h0 : (win0_5.blk t).view.emb (ix3 z k a) 0 = img t := Fin.ext (by blk_simp [e])
  have h1 : (win0_5.blk t).view.emb (ix3 z k a) 1 = k := Fin.ext (by blk_simp [e])
  have h2 : (win0_5.blk t).view.emb (ix3 z k a) 2 = a := Fin.ext (by blk_simp [e])
  rw [h0, h1, h2]

theorem scores_array : (dats m 0 c).arrAt 6 cfg0.N =
    fun i : S16x80x8400.Idx => (kbatch m c lab (i 0)).scores (i 2) (i 1) := by
  refine (dats m 0 c).arrAt_eq_of_covers 6 _ (by decide +kernel) fun t hf y => ?_
  have e := idx t
  obtain ⟨z, k, a, rfl⟩ : ∃ (z : Fin 1) (k : Fin 80) (a : Fin 8400), y = ix3 z k a := ⟨y 0, y 1, y 2, (ix3_eta y).symm⟩
  blk_simp
  rw [after0_6, out_scores _ _ _ _ _ (lab (img t)) (good_block m c lab t hI) (label_read m c lab t hl), blocks_eq]
  have h0 : (win0_6.blk t).view.emb (ix3 z k a) 0 = img t := Fin.ext (by blk_simp [e])
  have h1 : (win0_6.blk t).view.emb (ix3 z k a) 1 = k := Fin.ext (by blk_simp [e])
  have h2 : (win0_6.blk t).view.emb (ix3 z k a) 2 = a := Fin.ext (by blk_simp [e])
  rw [h0, h1, h2]

theorem counts_array : (dats m 0 c).arrAt 7 cfg0.N =
    fun i : S16x1x8400.Idx => (kbatch m c lab (i 0)).cnt (i 2) := by
  refine (dats m 0 c).arrAt_eq_of_covers 7 _ (by decide +kernel) fun t hf y => ?_
  have e := idx t
  obtain ⟨z, k, a, rfl⟩ : ∃ (z : Fin 1) (k : Fin 1) (a : Fin 8400), y = ix3 z k a := ⟨y 0, y 1, y 2, (ix3_eta y).symm⟩
  blk_simp
  rw [after0_7, out_counts _ _ _ _ _ (lab (img t)) (good_block m c lab t hI) (label_read m c lab t hl), blocks_eq]
  have h0 : (win0_7.blk t).view.emb (ix3 z k a) 0 = img t := Fin.ext (by blk_simp [e])
  have h2 : (win0_7.blk t).view.emb (ix3 z k a) 2 = a := Fin.ext (by blk_simp [e])
  rw [h0, h2]

end Cert.Assign

end
-- ==== Proof.KernelRun.lean ====
/- The kernel program's run: its three results as functions of its arguments. -/
module

public import proofs.«01_k».proof.Proof.KernelArrays

@[expose] public section

set_option maxRecDepth 16384

noncomputable section

namespace Cert.Assign

open Idealize.ShloMosaic Idealize.ShloMosaic.TcCoe Idealize.SL.Sem Cert.KernelIdeal Cert.KernelIdeal.Gen

section

variable (m : (ℓ : Loc nD τ sig) → Buf (Elt Ideal) ℓ) (ρ : Dev nD → PrngReg) (c : Dev nD)
  (lab : Fin 16 → Fin 64 → Fin 80)

/-- The buffers as the lines after the launch find them, at an output array. -/
theorem exit_arr (w : Fin 8) : Pipeline.withArrays spec0 c (V0 m c) (fun w => (dats m 0 c).arrAt w cfg0.N)
    (Proc.devRef .tc (Pipeline.arrRef spec0 w)) = (dats m 0 c).arrAt w cfg0.N :=
  Pipeline.withArrays_arr spec0 (by decide) c _ _ w

variable (hI : ∀ b, (kbatch m c lab b).Good)
  (hl : ∀ b g, m ((c : Thread nD τ).loc main_arg3) (ix3 b g 0) = BitVec.ofNat 32 (lab b g))

include hI hl

theorem result_boxes : Pipeline.afterTail₀ cfgs (dats m) 0 (V0 m) [hostOps1] c main_v4 = allBoxes (kbatch m c lab) := by
  unfold Pipeline.afterTail₀
  simp only [List.flatten_cons, List.flatten_nil, List.append_nil, hostOps1]
  after_results
  rw [show Pipeline.withArrays _ c _ _ (Proc.devRef .tc main_v3_0) = _ from exit_arr m c 5, boxes_array m c lab hI hl]
  funext i
  obtain ⟨b, a, k, rfl⟩ : ∃ b a k, i = ix3 b a k := ⟨i 0, i 1, i 2, eq_ix3 i⟩
  pointwise
  rfl

theorem result_scores : Pipeline.afterTail₀ cfgs (dats m) 0 (V0 m) [hostOps1] c main_v5 = allScores (kbatch m c lab) := by
  unfold Pipeline.afterTail₀
  simp only [List.flatten_cons, List.flatten_nil, List.append_nil, hostOps1]
  after_results
  rw [show Pipeline.withArrays _ c _ _ (Proc.devRef .tc main_v3_1) = _ from exit_arr m c 6, scores_array m c lab hI hl]
  funext i
  obtain ⟨b, a, k, rfl⟩ : ∃ b a k, i = ix3 b a k := ⟨i 0, i 1, i 2, eq_ix3 i⟩
  pointwise
  rfl

theorem result_taken : Pipeline.afterTail₀ cfgs (dats m) 0 (V0 m) [hostOps1] c main_v8 = allTaken (kbatch m c lab) := by
  unfold Pipeline.afterTail₀
  simp only [List.flatten_cons, List.flatten_nil, List.append_nil, hostOps1]
  after_results
  rw [show Pipeline.withArrays _ c _ _ (Proc.devRef .tc main_v3_2) = _ from exit_arr m c 7, counts_array m c lab hI hl]
  funext i
  obtain ⟨b, a, rfl⟩ : ∃ b a, i = ix2 b a := ⟨i 0, i 1, eq_ix2 i⟩
  pointwise
  rfl

end

/-- The run: the three results, and the arguments as they were. -/
theorem kernel_run (m : (ℓ : Loc nD τ sig) → Buf (Elt Ideal) ℓ) (ρ : Dev nD → PrngReg)
    (lab : Dev nD → Fin 16 → Fin 64 → Fin 80) (hI : ∀ c b, (kbatch m c (lab c) b).Good)
    (hl : ∀ (c : Dev nD) b g, m ((c : Thread nD τ).loc main_arg3) (ix3 b g 0) = BitVec.ofNat 32 (lab c b g)) :
    θ_run (defs (F := Ideal)) (onTc (τ := τ) (main (F := Ideal))) ⟨m, fun _ => 0, ρ⟩ (fun r => ∀ c : Dev nD,
      r.2.mem ((c.tc : Thread nD τ).loc main_v4) = allBoxes (kbatch m c (lab c))
      ∧ r.2.mem ((c.tc : Thread nD τ).loc main_v5) = allScores (kbatch m c (lab c))
      ∧ r.2.mem ((c.tc : Thread nD τ).loc main_v8) = allTaken (kbatch m c (lab c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    have rest (b) (hb) := (h c).2 b hb
    ⟨(rest main_v4 (Pipeline.mem_restRefs_of main_v4 (by decide) (by decide))).trans (result_boxes m c (lab c) (hI c) (hl c)),
      (rest main_v5 (Pipeline.mem_restRefs_of main_v5 (by decide) (by decide))).trans (result_scores m c (lab c) (hI c) (hl c)),
      (rest main_v8 (Pipeline.mem_restRefs_of main_v8 (by decide) (by decide))).trans (result_taken m c (lab c) (hI c) (hl c)),
      (rest main_arg0 (Pipeline.mem_restRefs_of main_arg0 (by decide) (by decide))).trans (W_main_arg0 m (dats m) c),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (rest main_arg5 (Pipeline.mem_restRefs_of main_arg5 (by decide) (by decide))).trans (W_main_arg5 m (dats m) c)⟩)
    (run_main m ρ)

end Cert.Assign

end
-- ==== Proof.RefIndex.lean ====
/- The reference's index work, read at an index: the positions of the greatest entries of a row, and its three gathers. -/
module

public import proofs.«01_k».proof.Proof.Rank
public import proofs.«01_k».proof.Proof.Gen.ReferenceIdeal.Read
public import Idealize.ShloMosaic.Lib.Pointwise

@[expose] public section

noncomputable section

namespace Cert.Assign

open Idealize.ShloMosaic Cert.ReferenceIdeal

theorem greater_iff (x y : EReal) : (FloatOps.cmpfTotal (F := Ideal) (φ := .f32) .gt x y == 1#1) = true ↔ y < x := by
  show (BitVec.ofBool (decide (y < x)) == 1#1) = true ↔ _
  by_cases h : y < x <;> simp [h]

/-- The positions that a row's greatest entries come from: entry `r` is the position of rank `r`. -/
theorem topK_at {A B n k : ℕ} (x : (⟨3, ![A, B, n]⟩ : Shape).Idx → EReal)
    (h : (⟨3, ![A, B, n]⟩ : Shape).Slices (fun _ => 0) ⟨3, ![A, B, k]⟩) (i : Fin A) (j : Fin B) (r : Fin k) :
    ∃ p : Fin n, rk (fun q => x (ix3 i j q)) p = r ∧
      (Host.topK ⟨3, ![A, B, k]⟩ 2 (FloatOps.cmpfTotal (F := Ideal) (φ := .f32) .gt) x h).2 (ix3 i j r) = BitVec.ofNat 32 p := by
  unfold Host.topK Host.sort2 extractStridedSlice
  dsimp only
  have hr : (r : ℕ) < n := by have := h.2 2; have := r.2; simp at *; omega
  have e : (fun a => ⟨0 + (ix3 i j r (Fin.cast h.1.symm a)).val, Nat.lt_of_lt_of_le (Nat.add_lt_add_left (ix3 i j r _).isLt _) (h.2 a)⟩ :
      (⟨3, ![A, B, n]⟩ : Shape).Idx) = ix3 i j ⟨r, hr⟩ := by
    funext a; fin_cases a <;> exact Fin.ext (Nat.zero_add _)
  have u (q : Fin n) : (ix3 i j (⟨r, hr⟩ : Fin n)).along (2 : Fin 3) q = ix3 i j q := by
    funext a; fin_cases a <;> rfl
  rw [dif_pos (by decide), e]
  refine ⟨_, rk_sortedFrom (B := fun q q' => FloatOps.cmpfTotal (F := Ideal) (φ := .f32) .gt (x (ix3 i j q)) (x (ix3 i j q')) == 1#1)
    (fun q => x (ix3 i j q)) (fun q q' => greater_iff _ _) ⟨r, hr⟩, ?_⟩
  dsimp only
  rw [dif_pos (by decide)]
  refine congrArg (fun f : Fin n → Fin n → Bool => BitVec.ofNat 32 (sortedFrom f ⟨r, hr⟩ : Fin n).val) (funext₂ fun q q' => ?_)
  rw [← u q, ← u q']
  rfl

/-- A small number's word, read back. -/
theorem word_toNat {n : ℕ} (h : n < 8400) : (BitVec.ofNat 32 n).toInt.toNat = n := by
  have : (BitVec.ofNat 32 n).toNat = n := by rw [BitVec.toNat_ofNat]; omega
  rw [BitVec.toInt_eq_toNat_of_lt (by omega), this]
  rfl

/-- A row of anchors' scores, for a box's class. -/
theorem score_gather (x : S16x8400x80.Idx → EReal) (w : IVec S16x64x2 32) (b : Fin 16) (g : Fin 64) (a : Fin 8400) (l : Fin 80)
    (h0 : w (ix3 b g 0) = BitVec.ofNat 32 b) (h1 : w (ix3 b g 1) = BitVec.ofNat 32 l) :
    Host.gather gather_S16x8400x80_S16x64x2_S16x64x8400_2_02_n_n_02_2_184001 x w (ix3 b g a) = x (ix3 b a l) := by
  unfold Host.gather
  congr 1
  have s0 : (gather_S16x8400x80_S16x64x2_S16x64x8400_2_02_n_n_02_2_184001).siIdx (ix3 b g a) ⟨0, by decide⟩ = ix3 b g 0 := by
    funext i; fin_cases i <;> rfl
  have s1 : (gather_S16x8400x80_S16x64x2_S16x64x8400_2_02_n_n_02_2_184001).siIdx (ix3 b g a) ⟨1, by decide⟩ = ix3 b g 1 := by
    funext i; fin_cases i <;> rfl
  funext i
  refine Fin.ext ?_
  show GatherDims.start _ _ _ _ + GatherDims.batchCoord _ _ _ + GatherDims.offCoord _ _ _ = _
  fin_cases i
  · show min (w (GatherDims.siIdx _ (ix3 b g a) ⟨0, _⟩)).toInt.toNat 15 + 0 + 0 = (b : ℕ)
    rw [s0, h0, word_toNat (by omega)]
    omega
  · show 0 + 0 + (a : ℕ) = a
    omega
  · show min (w (GatherDims.siIdx _ (ix3 b g a) ⟨1, _⟩)).toInt.toNat 79 + 0 + 0 = (l : ℕ)
    rw [s1, h1, word_toNat (by omega)]
    omega

theorem label_gather (x : IVec S16x64 32) (w : IVec S16x8400x1 32) (b : Fin 16) (a : Fin 8400) (p : Fin 64)
    (h : w (ix3 b a 0) = BitVec.ofNat 32 p) :
    Host.gather gather_S16x64_S16x8400x1_S16x8400_n_1_0_0_1_2_11 x w (ix2 b a) = x (ix2 b p) := by
  unfold Host.gather
  congr 1
  have s0 : (gather_S16x64_S16x8400x1_S16x8400_n_1_0_0_1_2_11).siIdx (ix2 b a) ⟨0, by decide⟩ = ix3 b a 0 := by
    funext i; fin_cases i <;> rfl
  funext i
  refine Fin.ext ?_
  show GatherDims.start _ _ _ _ + GatherDims.batchCoord _ _ _ + GatherDims.offCoord _ _ _ = _
  fin_cases i
  · show 0 + (b : ℕ) + 0 = (b : ℕ)
    omega
  · show min (w (GatherDims.siIdx _ (ix2 b a) ⟨0, _⟩)).toInt.toNat 63 + 0 + 0 = (p : ℕ)
    rw [s0, h, word_toNat (by omega)]
    omega

theorem box_gather (x : S16x64x4.Idx → EReal) (w : IVec S16x8400x1 32) (b : Fin 16) (a : Fin 8400) (k : Fin 4) (p : Fin 64)
    (h : w (ix3 b a 0) = BitVec.ofNat 32 p) :
    Host.gather gather_S16x64x4_S16x8400x1_S16x8400x4_2_1_0_0_1_2_114 x w (ix3 b a k) = x (ix3 b p k) := by
  unfold Host.gather
  congr 1
  have s0 : (gather_S16x64x4_S16x8400x1_S16x8400x4_2_1_0_0_1_2_114).siIdx (ix3 b a k) ⟨0, by decide⟩ = ix3 b a 0 := by
    funext i; fin_cases i <;> rfl
  funext i
  refine Fin.ext ?_
  show GatherDims.start _ _ _ _ + GatherDims.batchCoord _ _ _ + GatherDims.offCoord _ _ _ = _
  fin_cases i
  · show 0 + (b : ℕ) + 0 = (b : ℕ)
    omega
  · show min (w (GatherDims.siIdx _ (ix3 b a k) ⟨0, _⟩)).toInt.toNat 63 + 0 + 0 = (p : ℕ)
    rw [s0, h, word_toNat (by omega)]
    omega
  · show 0 + 0 + (k : ℕ) = k
    omega

end Cert.Assign

end
-- ==== Proof.RefOverlap.lean ====
/- The reference's overlap of every true box with every predicted box. -/
module

public import proofs.«01_k».proof.Proof.Images
public import proofs.«01_k».proof.Proof.Facts
public import proofs.«01_k».proof.Proof.RefIndex

@[expose] public section

set_option maxRecDepth 16384

noncomputable section

namespace Cert.Assign

open Idealize.ShloMosaic Cert.ReferenceIdeal Cert.ReferenceIdeal.Read

/-- A true box and a predicted box, as rows of their arrays. -/
abbrev gtRow (x4 : True4 → EReal) (b : Fin 16) (g : Fin 64) : Box := fun k => x4 (ix3 b g k)
abbrev pdRow (x1 : Pred → EReal) (b : Fin 16) (a : Fin 8400) : Box := fun k => x1 (ix3 b a k)

variable (x1 : Pred → EReal) (x4 : True4 → EReal) (b : Fin 16) (g : Fin 64) (a : Fin 8400)

theorem id_zero : id (constant (F := Ideal) S_ .f32 0x00000000#32) ix0 = 0 := by
  show constant (F := Ideal) S_ .f32 0x00000000#32 ix0 = 0
  pointwise

theorem ref_wid : val_main_v48 (F := Ideal) x4 (ix4 b g 0 0) = wid (gtRow x4 b g) := by
  pointwise [val_main_v48, val_main_v38, val_main_v39, val_main_v40, val_main_v41, val_main_v42, val_main_v43, val_main_v44, val_main_v45, val_main_v46, val_main_v47]
  rfl

theorem ref_hgt : val_main_v51 (F := Ideal) x4 (ix4 b g 0 0) = hgt (gtRow x4 b g) := by
  pointwise [val_main_v51, val_main_v50, val_main_v49, val_main_cst_5, val_main_v38, val_main_v39, val_main_v40, val_main_v41, val_main_v42, val_main_v43, val_main_v44, val_main_v45, val_main_v46, val_main_v47]
  rfl

theorem ref_wid' : val_main_v52 (F := Ideal) x1 (ix4 b 0 a 0) = wid (pdRow x1 b a) := by
  pointwise [val_main_v52, val_main_v38, val_main_v39, val_main_v40, val_main_v41, val_main_v42, val_main_v43, val_main_v44, val_main_v45, val_main_v46, val_main_v47]
  rfl

theorem ref_hgt' : val_main_v55 (F := Ideal) x1 (ix4 b 0 a 0) = hgt (pdRow x1 b a) := by
  pointwise [val_main_v55, val_main_v54, val_main_v53, val_main_cst_6, val_main_v38, val_main_v39, val_main_v40, val_main_v41, val_main_v42, val_main_v43, val_main_v44, val_main_v45, val_main_v46, val_main_v47]
  rfl

theorem ref_inter : val_main_v72 (F := Ideal) x1 x4 (ix4 b g a 0) = inter (gtRow x4 b g) (pdRow x1 b a) := by
  pointwise [val_main_v56, val_main_v57, val_main_v58, val_main_v59, val_main_v60, val_main_v61, val_main_v62, val_main_cst_7, val_main_call0_v0, val_main_call0_v1, val_main_v63, val_main_v64, val_main_v65, val_main_v66, val_main_v67, val_main_v68, val_main_v69, val_main_v70, val_main_cst_8, val_main_call1_v0, val_main_call1_v1, val_main_v71, val_main_v72, val_main_v38, val_main_v39, val_main_v40, val_main_v41, val_main_v42, val_main_v43, val_main_v44, val_main_v45, val_main_v46, val_main_v47]
  rw [id_zero]
  rfl

theorem ref_union : val_main_v80 (F := Ideal) x1 x4 (ix4 b g a 0) = union (gtRow x4 b g) (pdRow x1 b a) := by
  pointwise [val_main_v73, val_main_v74, val_main_v75, val_main_v76, val_main_v77, val_main_v78, val_main_cst_9, val_main_v79, val_main_v80]
  rw [ref_inter, ref_wid, ref_hgt, ref_wid', ref_hgt']
  rfl

theorem ref_iou : val_main_v81 (F := Ideal) x1 x4 (ix4 b g a 0) = iou (gtRow x4 b g) (pdRow x1 b a) := by
  pointwise [val_main_v81]
  rw [ref_inter, ref_union]
  rfl

theorem ref_hull : val_main_v100 (F := Ideal) x1 x4 (ix4 b g a 0) = hull (gtRow x4 b g) (pdRow x1 b a) := by
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_cst_10, val_main_v99, val_main_v100, val_main_v38, val_main_v39, val_main_v40, val_main_v41, val_main_v42, val_main_v43, val_main_v44, val_main_v45, val_main_v46, val_main_v47]
  rfl

theorem ref_dist : val_main_v117 (F := Ideal) x1 x4 (ix4 b g a 0) = dist (gtRow x4 b g) (pdRow x1 b a) := by
  pointwise [val_main_v101, val_main_v102, val_main_v103, val_main_v104, val_main_v105, val_main_v106, val_main_v107, val_main_v108, val_main_v109, val_main_v110, val_main_v111, val_main_v112, val_main_v113, val_main_v114, val_main_v115, val_main_cst_11, val_main_v116, val_main_v117, val_main_v38, val_main_v39, val_main_v40, val_main_v41, val_main_v42, val_main_v43, val_main_v44, val_main_v45, val_main_v46, val_main_v47]
  rfl

theorem ref_series' : val_main_v185 (F := Ideal) x1 (ix4 b 0 a 0) = powers (val_main_v131 (F := Ideal) x1 (ix4 b 0 a 0)) := by
  pointwise [val_main_cst_17, val_main_v132, val_main_v133, val_main_cst_18, val_main_v134, val_main_v135, val_main_v136, val_main_v137, val_main_cst_19, val_main_v138, val_main_v139, val_main_v140, val_main_v141, val_main_v142, val_main_v143, val_main_cst_20, val_main_v144, val_main_v145, val_main_v146, val_main_v147, val_main_v148, val_main_v149, val_main_v150, val_main_cst_21, val_main_v151, val_main_v152, val_main_v153, val_main_v154, val_main_v155, val_main_v156, val_main_v157, val_main_cst_22, val_main_v158, val_main_v159, val_main_v160, val_main_v161, val_main_v162, val_main_v163, val_main_v164, val_main_v165, val_main_cst_23, val_main_v166, val_main_v167, val_main_v168, val_main_v169, val_main_v170, val_main_v171, val_main_v172, val_main_v173, val_main_cst_24, val_main_v174, val_main_v175, val_main_v176, val_main_v177, val_main_v178, val_main_v179, val_main_v180, val_main_v181, val_main_v182, val_main_cst_25, val_main_v183, val_main_v184, val_main_v185]
  simp only [powers, zero_add, one_mul]

theorem ref_shape' : val_main_v193 (F := Ideal) x1 (ix4 b 0 a 0) = shape (pdRow x1 b a) := by
  pointwise [val_main_cst_26, val_main_v186, val_main_v187, val_main_v188, val_main_cst_27, val_main_v189, val_main_v190, val_main_cst_28, val_main_v191, val_main_v192, val_main_v193]
  rw [ref_series']
  pointwise [val_main_v118, val_main_cst_12, val_main_v119, val_main_v120, val_main_cst_13, val_main_v121, val_main_v122, val_main_v123, val_main_cst_14, val_main_v124, val_main_v125, val_main_cst_15, val_main_v126, val_main_v127, val_main_cst_16, val_main_v128, val_main_v129, val_main_v130, val_main_v131]
  rw [ref_wid', ref_hgt']
  rfl

theorem ref_series : val_main_v261 (F := Ideal) x4 (ix4 b g 0 0) = powers (val_main_v207 (F := Ideal) x4 (ix4 b g 0 0)) := by
  pointwise [val_main_cst_34, val_main_v208, val_main_v209, val_main_cst_35, val_main_v210, val_main_v211, val_main_v212, val_main_v213, val_main_cst_36, val_main_v214, val_main_v215, val_main_v216, val_main_v217, val_main_v218, val_main_v219, val_main_cst_37, val_main_v220, val_main_v221, val_main_v222, val_main_v223, val_main_v224, val_main_v225, val_main_v226, val_main_cst_38, val_main_v227, val_main_v228, val_main_v229, val_main_v230, val_main_v231, val_main_v232, val_main_v233, val_main_cst_39, val_main_v234, val_main_v235, val_main_v236, val_main_v237, val_main_v238, val_main_v239, val_main_v240, val_main_v241, val_main_cst_40, val_main_v242, val_main_v243, val_main_v244, val_main_v245, val_main_v246, val_main_v247, val_main_v248, val_main_v249, val_main_cst_41, val_main_v250, val_main_v251, val_main_v252, val_main_v253, val_main_v254, val_main_v255, val_main_v256, val_main_v257, val_main_v258, val_main_cst_42, val_main_v259, val_main_v260, val_main_v261]
  simp only [powers, zero_add, one_mul]

theorem ref_shape : val_main_v269 (F := Ideal) x4 (ix4 b g 0 0) = shape (gtRow x4 b g) := by
  pointwise [val_main_cst_43, val_main_v262, val_main_v263, val_main_v264, val_main_cst_44, val_main_v265, val_main_v266, val_main_cst_45, val_main_v267, val_main_v268, val_main_v269]
  rw [ref_series]
  pointwise [val_main_v194, val_main_cst_29, val_main_v195, val_main_v196, val_main_cst_30, val_main_v197, val_main_v198, val_main_v199, val_main_cst_31, val_main_v200, val_main_v201, val_main_cst_32, val_main_v202, val_main_v203, val_main_cst_33, val_main_v204, val_main_v205, val_main_v206, val_main_v207]
  rw [ref_wid, ref_hgt]
  rfl

theorem ref_aspect : val_main_v275 (F := Ideal) x1 x4 (ix4 b g a 0) = aspect (gtRow x4 b g) (pdRow x1 b a) := by
  pointwise [val_main_v270, val_main_v271, val_main_v272, val_main_v273, val_main_cst_46, val_main_v274, val_main_v275]
  rw [ref_shape, ref_shape']
  rfl

theorem ref_ciou : val_main_v284 (F := Ideal) x1 x4 (ix3 b g a) = ciou (gtRow x4 b g) (pdRow x1 b a) := by
  pointwise [val_main_v276, val_main_cst_47, val_main_v277, val_main_v278, val_main_v279, val_main_v280, val_main_v281, val_main_v282, val_main_v283, val_main_v284]
  rw [ref_aspect, ref_iou, ref_dist, ref_hull]
  rfl

end Cert.Assign

end
-- ==== Proof.RefMetric.lean ====
/- The reference's alignment of every true box with every anchor. -/
module

public import proofs.«01_k».proof.Proof.RefOverlap

@[expose] public section

set_option maxRecDepth 16384

noncomputable section

namespace Cert.Assign

open Idealize.ShloMosaic Cert.ReferenceIdeal Cert.ReferenceIdeal.Read

variable (x0 : Score → EReal) (x1 : Pred → EReal) (x2 : Anchor → EReal) (x3 : Label → BitVec 32) (x4 : True4 → EReal)
  (x5 : Label → EReal) (lab : Fin 16 → Fin 64 → Fin 80) (b : Fin 16) (g : Fin 64) (a : Fin 8400)

/-- The smallest of four numbers. -/
theorem fold_four (f : Fin 4 → EReal) : Finset.univ.fold min ⊤ f = min (min (f 0) (f 1)) (min (f 2) (f 3)) := by
  rw [show (Finset.univ : Finset (Fin 4)) = {0, 1, 2, 3} from by decide]
  rw [Finset.fold_insert (by decide), Finset.fold_insert (by decide), Finset.fold_insert (by decide), Finset.fold_singleton,
    min_top_right, min_assoc]

theorem ref_gap (k : Fin 4) : val_main_v15 (F := Ideal) x2 x4 (ix4 b g a k) =
    ![x2 (ix2 a 0) - x4 (ix3 b g 0), x2 (ix2 a 1) - x4 (ix3 b g 1), x4 (ix3 b g 2) - x2 (ix2 a 0), x4 (ix3 b g 3) - x2 (ix2 a 1)] k := by
  fin_cases k <;>
  pointwise [val_main_v15, val_main_v9, val_main_v14, val_main_v3,
    val_main_v4, val_main_v5, val_main_v6, val_main_v7, val_main_v8, val_main_v10, val_main_v11, val_main_v12, val_main_v13]

theorem ref_least : val_main_v16 (F := Ideal) x2 x4 (ix3 b g a) =
    min (min (x2 (ix2 a 0) - x4 (ix3 b g 0)) (x2 (ix2 a 1) - x4 (ix3 b g 1)))
      (min (x4 (ix3 b g 2) - x2 (ix2 a 0)) (x4 (ix3 b g 3) - x2 (ix2 a 1))) := by
  pointwise [val_main_v16, val_main_cst_0]
  rw [word_top, fold_four, ref_gap, ref_gap, ref_gap, ref_gap]
  rfl

theorem ref_margin : val_main_v17 (F := Ideal) (ix3 b g a) = e9 := by
  pointwise [val_main_v17, val_main_cst_1]

theorem ref_inside : val_main_v18 (F := Ideal) x2 x4 (ix3 b g a) =
    BitVec.ofBool (decide ((batch x0 x1 x2 x4 lab b).inside g a)) := by
  rw [val_main_v18_apply, ref_margin, ref_least]
  rfl

theorem select_yes {α : Type} (x y : α) : Scalar.select (BitVec.ofBool true) x y = x := rfl
theorem select_no {α : Type} (x y : α) : Scalar.select (BitVec.ofBool false) x y = y := rfl

/-- The labels are class numbers. -/
abbrev Labelled : Prop := ∀ b g, x3 (ix3 b g 0) = BitVec.ofNat 32 (lab b g)
/-- No true box is padding. -/
abbrev Unmasked : Prop := ∀ b g, x5 (ix3 b g 0) = 1

section masked

variable (hm : Unmasked x5)
include hm

theorem ref_mask : val_main_v2 (F := Ideal) x5 (ix3 b g 0) = 1#1 := by
  pointwise [val_main_v2, val_main_v1, val_main_cst]
  rw [hm]
  simp

theorem ref_inside' : val_main_v20 (F := Ideal) x2 x4 x5 (ix3 b g a) =
    BitVec.ofBool (decide ((batch x0 x1 x2 x4 lab b).inside g a)) := by
  pointwise [val_main_v20, val_main_v19]
  rw [ref_inside x0 x1 x2 x4 lab, ref_mask x5 b g hm]
  by_cases h : (batch x0 x1 x2 x4 lab b).inside g a <;> simp [h] <;> rfl

theorem ref_ovl : val_main_v286 (F := Ideal) x1 x2 x4 x5 (ix3 b g a) = (batch x0 x1 x2 x4 lab b).ovl g a := by
  pointwise [val_main_v286, val_main_v285, val_main_call10_v0, val_main_call10_v1, val_main_call11_v0, val_main_call11_v1,
    val_main_cst_48, val_main_cst_49]
  rw [ref_inside' x0 x1 x2 x4 x5 lab b g a hm, ref_ciou, id_zero]
  unfold Image.ovl
  by_cases h : (batch x0 x1 x2 x4 lab b).inside g a
  · rw [if_pos h, decide_eq_true h, select_yes]; rfl
  · rw [if_neg h, decide_eq_false h, select_no]

end masked

theorem word_not_neg {n : ℕ} (h : n < 8400) : (BitVec.ofNat 32 n).slt 0#32 = false := by
  rw [BitVec.slt, decide_eq_false_iff_not, BitVec.toInt_eq_toNat_of_lt (by rw [BitVec.toNat_ofNat]; omega)]
  simp only [BitVec.toNat_ofNat, BitVec.toInt_zero]
  omega

/-- A position that is not negative is left as it is. -/
theorem word_wrap {n : ℕ} (h : n < 8400) (m : BitVec 32) :
    Scalar.select (IntOp.cmpi .slt (BitVec.ofNat 32 n) 0#32) (IntOp.addi (BitVec.ofNat 32 n) m) (BitVec.ofNat 32 n) =
      BitVec.ofNat 32 n := by
  show Scalar.select (BitVec.ofBool ((BitVec.ofNat 32 n).slt 0#32)) _ _ = _
  rw [word_not_neg h, select_no]

theorem ref_row (hl : Labelled x3 lab) (k : Fin 2) : val_main_v36 (F := Ideal) x3 (ix3 b g k) =
    if k = 0 then BitVec.ofNat 32 b else BitVec.ofNat 32 (lab b g) := by
  fin_cases k
  · pointwise [val_main_v36, val_main_v34, val_main_v33, val_main_v27, val_main_v26, val_main_v25, val_main_v24,
      val_main_v23, val_main_v22, val_main_v21, val_main_c, val_main_c_2]
    exact word_wrap (by omega) _
  · pointwise [val_main_v36, val_main_v35, val_main_v32, val_main_v31, val_main_v29, val_main_v28, val_main_v30,
      val_main_c_3, val_main_c_4, val_main_v0]
    rw [hl]
    exact word_wrap (by omega) _

theorem ref_score (hl : Labelled x3 lab) : val_main_v37 (F := Ideal) x0 x3 (ix3 b g a) = x0 (ix3 b a (lab b g)) := by
  unfold val_main_v37
  exact score_gather _ _ b g a (lab b g) (ref_row x3 lab b g hl 0) (ref_row x3 lab b g hl 1)

theorem hostPow_eq (x y : EReal) : FloatOps.hostPowf (F := Ideal) (φ := .f32) x y = Ideal.pow x y := rfl
theorem mulf_eq (x y : EReal) : FloatOps.mulf (F := Ideal) (φ := .f32) x y = x * y := rfl

theorem hostDiv_eq (x y : EReal) : FloatOps.hostDivf (F := Ideal) (φ := .f32) x y = Ideal.div x y := rfl

theorem ref_half : val_main_v288 (F := Ideal) (ix3 b g a) = Ideal.ofBits .f32 0x3F000000#32 := by
  pointwise [val_main_v288, val_main_cst_51]
theorem ref_six : val_main_v290 (F := Ideal) (ix3 b g a) = Ideal.ofBits .f32 0x40C00000#32 := by
  pointwise [val_main_v290, val_main_cst_52]
theorem ref_nought : val_main_call13_v1 (F := Ideal) (ix3 b g a) = 0 := by
  pointwise [val_main_call13_v1, val_main_call13_v0, val_main_cst_53]
  exact id_zero

theorem ref_met (hm : Unmasked x5) (hl : Labelled x3 lab) (hI : ∀ b, (batch x0 x1 x2 x4 lab b).Good) :
    val_main_v293 (F := Ideal) x0 x1 x2 x3 x4 x5 (ix3 b g a) = (batch x0 x1 x2 x4 lab b).met g a := by
  rw [val_main_v293_apply, val_main_v292_apply, val_main_v291_apply, val_main_v289_apply, val_main_v287_apply, ref_half, ref_six,
    ref_nought]
  rw [ref_inside' x0 x1 x2 x4 x5 lab b g a hm, ref_ovl x0 x1 x2 x4 x5 lab b g a hm, ref_score x0 x3 lab b g a hl]
  unfold Image.met
  by_cases h : (batch x0 x1 x2 x4 lab b).inside g a
  · rw [decide_eq_true h, select_yes, select_yes, hostPow_eq, hostPow_eq, mulf_eq, pow_six ((batch x0 x1 x2 x4 lab b).ovl_real g a)]
    exact congrArg (· * _) (pow_half ((hI b).sc a (lab b g)))
  · rw [decide_eq_false h, select_no]
    simp [Image.ovl, h]

end Cert.Assign

end
-- ==== Proof.RefCount.lean ====
/- The reference's candidates: a box's ten best aligned anchors, as a zero-one array. -/
module

public import proofs.«01_k».proof.Proof.RefMetric
public import proofs.«01_k».proof.Proof.Rounds

@[expose] public section

set_option maxRecDepth 16384

noncomputable section

namespace Cert.Assign

open Idealize.ShloMosaic Cert.ReferenceIdeal Cert.ReferenceIdeal.Read

/-- What the reference is given: real boxes none turned round, real scores not negative, class numbers, no padding. -/
structure Given (x0 : Score → EReal) (x1 : Pred → EReal) (x2 : Anchor → EReal) (x3 : Label → BitVec 32) (x4 : True4 → EReal)
    (x5 : Label → EReal) (lab : Fin 16 → Fin 64 → Fin 80) : Prop where
  good : ∀ b, (batch x0 x1 x2 x4 lab b).Good
  labelled : Labelled x3 lab
  unmasked : Unmasked x5

variable {x0 : Score → EReal} {x1 : Pred → EReal} {x2 : Anchor → EReal} {x3 : Label → BitVec 32} {x4 : True4 → EReal}
  {x5 : Label → EReal} {lab : Fin 16 → Fin 64 → Fin 80} (H : Given x0 x1 x2 x3 x4 x5 lab)
  (b : Fin 16) (g : Fin 64) (a : Fin 8400)
include H

theorem ref_ten (r : Fin 10) : ∃ p : Fin 8400, rk ((batch x0 x1 x2 x4 lab b).met g) p = r ∧
    val_main_v294 (F := Ideal) x0 x1 x2 x3 x4 x5 (ix3 b g r) = BitVec.ofNat 32 p := by
  obtain ⟨p, hp, e⟩ := topK_at (val_main_v293 (F := Ideal) x0 x1 x2 x3 x4 x5) Gen.sliceFits_S16x64x8400_S16x64x10 b g r
  refine ⟨p, ?_, ?_⟩
  · refine Eq.trans (congrArg (fun f => rk f p) (funext fun q => ?_)) hp
    exact Eq.symm (ref_met x0 x1 x2 x3 x4 x5 lab b g q H.unmasked H.labelled H.good)
  · have m : val_main_call14_v1 (F := Ideal) x5 (ix3 b g r) = 1#1 := by
      pointwise [val_main_call14_v1]
      exact ref_mask x5 b g H.unmasked
    rw [val_main_v294_apply, m]
    exact e

omit H in
/-- A sum of words of which one at most is not zero. -/
theorem fold_one {n : ℕ} (f : Fin n → BitVec 32) (r : Fin n) (h : ∀ q, q ≠ r → f q = 0) :
    Finset.univ.fold IntOp.addi 0#32 f = f r := by
  show ∑ q, f q = f r
  exact Finset.sum_eq_single r (fun q _ hq => h q hq) (fun h => absurd (Finset.mem_univ _) h)

theorem ref_hit (r : Fin 10) : val_main_v301 (F := Ideal) x0 x1 x2 x3 x4 x5 (ix4 b g r a) =
    if rk ((batch x0 x1 x2 x4 lab b).met g) a = r then 1#32 else 0#32 := by
  obtain ⟨p, hp, e⟩ := ref_ten H b g r
  have u : val_main_v298 (F := Ideal) x0 x1 x2 x3 x4 x5 (ix4 b g r a) = BitVec.ofNat 32 p := by
    pointwise [val_main_v298, val_main_v295]
    exact e
  have v : val_main_v299 (F := Ideal) (ix4 b g r a) = BitVec.ofNat 32 a := by
    pointwise [val_main_v299, val_main_v297, val_main_v296]
  rw [val_main_v301_apply, val_main_v300_apply, u, v, word_test (by norm_num)]
  by_cases h : p = a
  · subst h
    rw [if_pos hp]
    simp
  · rw [if_neg fun h' => h (rk_injective _ (hp.trans h'.symm))]
    simp [h]

/-- How often an anchor is among the ten: once or never. -/
theorem ref_times : val_main_v302 (F := Ideal) x0 x1 x2 x3 x4 x5 (ix3 b g a) =
    if rk ((batch x0 x1 x2 x4 lab b).met g) a < 10 then 1#32 else 0#32 := by
  pointwise [val_main_v302, val_main_c_55]
  simp only [ref_hit H]
  generalize rk ((batch x0 x1 x2 x4 lab b).met g) a = n
  by_cases h : n < 10
  · rw [fold_one (fun x : Fin 10 => if n = x then 1#32 else 0#32) ⟨n, h⟩ fun q hq => if_neg fun e => hq (Fin.ext (Eq.symm e))]
    rw [if_pos rfl, if_pos h]
  · have z (q : Fin 10) : ¬ n = q := fun e => h (e ▸ q.2)
    rw [fold_one (fun x : Fin 10 => if n = x then 1#32 else 0#32) 0 fun q _ => if_neg (z q), if_neg (z 0), if_neg h]

theorem ref_once : val_main_v305 (F := Ideal) x0 x1 x2 x3 x4 x5 (ix3 b g a) =
    if rk ((batch x0 x1 x2 x4 lab b).met g) a < 10 then 1#32 else 0#32 := by
  have u : val_main_v303 (F := Ideal) (ix3 b g a) = 1#32 := by pointwise [val_main_v303, val_main_c_56]
  rw [val_main_v305_apply, val_main_v304_apply, u, ref_times H]
  split <;> rfl

omit H in
/-- A bit as a float. -/
theorem bit_unsigned (p : Prop) [Decidable p] :
    (FloatOps.uitofp FTy.f32 (BitVec.ofBool (decide p)) : Ideal .f32) = if p then 1 else 0 := by
  by_cases h : p
  · rw [decide_eq_true h, if_pos h]
    change ((((BitVec.ofBool true).toNat : ℝ)) : EReal) = 1
    simp
  · rw [decide_eq_false h, if_neg h]
    change ((((BitVec.ofBool false).toNat : ℝ)) : EReal) = 0
    simp

omit H in
theorem word_float (p : Prop) [Decidable p] :
    (FloatOps.sitofp FTy.f32 (if p then 1#32 else 0#32) : Ideal .f32) = if p then 1 else 0 := by
  by_cases h : p
  · rw [if_pos h, if_pos h]
    change ((((1#32).toInt : ℝ)) : EReal) = 1
    simp
  · rw [if_neg h, if_neg h]
    change ((((0#32).toInt : ℝ)) : EReal) = 0
    simp

theorem ref_pos0 : val_main_v310 (F := Ideal) x0 x1 x2 x3 x4 x5 (ix3 b g a) = (batch x0 x1 x2 x4 lab b).pos0 g a := by
  have u : val_main_v309 (F := Ideal) x5 (ix3 b g a) = 1 := by
    pointwise [val_main_v309]
    exact H.unmasked b g
  rw [val_main_v310_apply, val_main_v308_apply, val_main_v306_apply, val_main_v307_apply, u, ref_once H,
    ref_inside x0 x1 x2 x4 lab, bit_unsigned, word_float, mulf_eq, mulf_eq, mul_one]
  unfold Image.pos0
  by_cases h : rk ((batch x0 x1 x2 x4 lab b).met g) a < 10 <;>
    by_cases h' : (batch x0 x1 x2 x4 lab b).inside g a <;> simp [h, h']

theorem ref_cnt0 : val_main_v311 (F := Ideal) x0 x1 x2 x3 x4 x5 (ix2 b a) = (batch x0 x1 x2 x4 lab b).cnt0 a := by
  pointwise [val_main_v311, val_main_cst_58]
  exact Finset.sum_congr rfl fun g _ => ref_pos0 H b g a

end Cert.Assign

end
-- ==== Proof.RefAssign.lean ====
/- The reference's assignment of every anchor, and its three results. -/
module

public import proofs.«01_k».proof.Proof.RefCount

@[expose] public section

set_option maxRecDepth 16384

noncomputable section

namespace Cert.Assign

open Idealize.ShloMosaic Cert.ReferenceIdeal Cert.ReferenceIdeal.Read

variable {x0 : Score → EReal} {x1 : Pred → EReal} {x2 : Anchor → EReal} {x3 : Label → BitVec 32} {x4 : True4 → EReal}
  {x5 : Label → EReal} {lab : Fin 16 → Fin 64 → Fin 80} (H : Given x0 x1 x2 x3 x4 x5 lab)
  (b : Fin 16) (g : Fin 64) (a : Fin 8400) (c : Fin 80) (k : Fin 4)
include H

/-- The box that overlaps an anchor most. -/
theorem ref_best : ∃ p : Fin 64, rk (fun g => (batch x0 x1 x2 x4 lab b).ovl g a) p = 0 ∧
    val_main_v315 (F := Ideal) x1 x2 x4 x5 (ix2 b a) = BitVec.ofNat 32 p := by
  obtain ⟨p, hp, e⟩ := topK_at (val_main_v314 (F := Ideal) x1 x2 x4 x5) Gen.sliceFits_S16x8400x64_S16x8400x1 b a 0
  refine ⟨p, Eq.trans (congrArg (fun f => rk f p) (funext fun q => ?_)) hp, ?_⟩
  · pointwise [val_main_v314]
    exact Eq.symm (ref_ovl x0 x1 x2 x4 x5 lab b q a H.unmasked)
  · pointwise [val_main_v315]
    exact e

theorem ref_mine : val_main_v320 (F := Ideal) x1 x2 x4 x5 (ix3 b g a) =
    if rk (fun g => (batch x0 x1 x2 x4 lab b).ovl g a) g = 0 then 1 else 0 := by
  obtain ⟨p, hp, e⟩ := ref_best H b a
  have u : val_main_v317 (F := Ideal) (ix3 b g a) = BitVec.ofNat 32 g := by
    pointwise [val_main_v317, val_main_v313, val_main_v312]
  have v : val_main_v318 (F := Ideal) x1 x2 x4 x5 (ix3 b g a) = BitVec.ofNat 32 p := by
    pointwise [val_main_v318, val_main_v316]
    exact e
  rw [val_main_v320_apply, val_main_v319_apply, u, v, word_test (by norm_num), bit_unsigned]
  refine if_congr ⟨fun h => h ▸ hp, fun h => rk_injective _ (h.trans hp.symm)⟩ rfl rfl

theorem ref_pos : val_main_v324 (F := Ideal) x0 x1 x2 x3 x4 x5 (ix3 b g a) = (batch x0 x1 x2 x4 lab b).pos g a := by
  have u : val_main_v321 (F := Ideal) x0 x1 x2 x3 x4 x5 (ix3 b 0 a) = (batch x0 x1 x2 x4 lab b).cnt0 a := by
    pointwise [val_main_v321]
    exact ref_cnt0 H b a
  have v : val_main_v322 (F := Ideal) (ix3 b 0 a) = 1 := by
    pointwise [val_main_v322, val_main_cst_61]
  have w : val_main_call16_v0 (F := Ideal) x0 x1 x2 x3 x4 x5 (ix3 b g a) =
      BitVec.ofBool (decide (1 < (batch x0 x1 x2 x4 lab b).cnt0 a)) := by
    pointwise [val_main_call16_v0]
    rw [val_main_v323_apply, u, v]
    rfl
  rw [val_main_v324_apply, w, ref_mine H, ref_pos0 H]
  unfold Image.pos
  by_cases h : 1 < (batch x0 x1 x2 x4 lab b).cnt0 a
  · rw [decide_eq_true h, select_yes, if_pos h]
  · rw [decide_eq_false h, select_no, if_neg h]

theorem ref_cnt : val_main_v325 (F := Ideal) x0 x1 x2 x3 x4 x5 (ix2 b a) = (batch x0 x1 x2 x4 lab b).cnt a := by
  pointwise [val_main_v325, val_main_cst_62]
  exact Finset.sum_congr rfl fun g _ => ref_pos H b g a

theorem ref_sel : val_main_v327 (F := Ideal) x0 x1 x2 x3 x4 x5 (ix2 b a) =
    BitVec.ofNat 32 ((batch x0 x1 x2 x4 lab b).sel a) := by
  obtain ⟨p, hp, e⟩ := topK_at (val_main_v326 (F := Ideal) x0 x1 x2 x3 x4 x5) Gen.sliceFits_S16x8400x64_S16x8400x1 b a 0
  have hq : rk (fun g => (batch x0 x1 x2 x4 lab b).pos g a) p = 0 := by
    refine Eq.trans (congrArg (fun f => rk f p) (funext fun q => ?_)) hp
    pointwise [val_main_v326]
    exact Eq.symm (ref_pos H b q a)
  rw [← rk_injective _ (hq.trans ((batch x0 x1 x2 x4 lab b).rk_sel a).symm)]
  pointwise [val_main_v327]
  exact e

/-! ### The boxes -/

theorem ref_boxes : val_main_v331 (F := Ideal) x0 x1 x2 x3 x4 x5 (ix3 b a k) = (batch x0 x1 x2 x4 lab b).boxes a k := by
  have u : val_main_v330 (F := Ideal) x0 x1 x2 x3 x4 x5 (ix3 b a 0) =
      BitVec.ofNat 32 ((batch x0 x1 x2 x4 lab b).sel a) := by
    pointwise [val_main_v330]
    exact ref_sel H b a
  have v : val_main_call19_v0 (F := Ideal) (ix3 b a 0) = 0#32 := by
    pointwise [val_main_call19_v0, val_main_call19_c]
  have w : val_main_call19_v4 (F := Ideal) x0 x1 x2 x3 x4 x5 (ix3 b a 0) =
      BitVec.ofNat 32 ((batch x0 x1 x2 x4 lab b).sel a) := by
    rw [val_main_call19_v4_apply, val_main_call19_v1_apply, val_main_call19_v3_apply, u, v]
    exact word_wrap (by omega) _
  unfold val_main_v331
  exact box_gather _ _ b a k _ w

/-! ### The scores -/

theorem ref_label : val_main_v329 (F := Ideal) x0 x1 x2 x3 x4 x5 (ix2 b a) =
    BitVec.ofNat 32 (lab b ((batch x0 x1 x2 x4 lab b).sel a)) := by
  have v : val_main_call17_v0 (F := Ideal) (ix2 b a) = 0#32 := by
    pointwise [val_main_call17_v0, val_main_call17_c]
  have w : val_main_call17_v5 (F := Ideal) x0 x1 x2 x3 x4 x5 (ix3 b a 0) =
      BitVec.ofNat 32 ((batch x0 x1 x2 x4 lab b).sel a) := by
    pointwise [val_main_call17_v5]
    rw [val_main_call17_v4_apply, val_main_call17_v1_apply, val_main_call17_v3_apply, ref_sel H, v]
    exact word_wrap (by omega) _
  have l : val_main_v328 (F := Ideal) x0 x1 x2 x3 x4 x5 (ix2 b a) =
      BitVec.ofNat 32 (lab b ((batch x0 x1 x2 x4 lab b).sel a)) := by
    unfold val_main_v328
    rw [label_gather _ _ b a _ w]
    pointwise [val_main_v0]
    exact H.labelled _ _
  have z : val_main_call18_v1 (F := Ideal) (ix2 b a) = 0#32 := by
    pointwise [val_main_call18_v1, val_main_call18_v0, val_main_c_65]
    rfl
  rw [val_main_v329_apply, l, z]
  unfold IntOp.maxsi
  rw [word_not_neg (by omega)]
  exact if_neg (by decide)

theorem ref_onehot : val_main_v332 (F := Ideal) x0 x1 x2 x3 x4 x5 (ix3 b a c) =
    if lab b ((batch x0 x1 x2 x4 lab b).sel a) = c then 1 else 0 := by
  have u : val_main_call20_v2 (F := Ideal) x0 x1 x2 x3 x4 x5 (ix3 b a c) =
      BitVec.ofNat 32 (lab b ((batch x0 x1 x2 x4 lab b).sel a)) := by
    pointwise [val_main_call20_v2, val_main_call20_v0]
    exact ref_label H b a
  have v : val_main_call20_v3 (F := Ideal) (ix3 b a c) = BitVec.ofNat 32 c := by
    pointwise [val_main_call20_v3, val_main_call20_v1]
  rw [val_main_v332_apply, val_main_call20_v4_apply, u, v, word_test (by norm_num), bit_unsigned]

theorem ref_most : val_main_v338 (F := Ideal) x0 x1 x2 x3 x4 x5 (ix2 b g) =
    top fun a => (batch x0 x1 x2 x4 lab b).met g a * (batch x0 x1 x2 x4 lab b).pos g a := by
  pointwise [val_main_v338, val_main_cst_68]
  refine congrArg (Finset.univ.fold max _) (funext fun a => ?_)
  rw [val_main_v337_apply, ref_met x0 x1 x2 x3 x4 x5 lab b g a H.unmasked H.labelled H.good, ref_pos H, mulf_eq]

theorem ref_widest : val_main_v341 (F := Ideal) x0 x1 x2 x3 x4 x5 (ix2 b g) =
    top fun a => (batch x0 x1 x2 x4 lab b).ovl g a * (batch x0 x1 x2 x4 lab b).pos g a := by
  pointwise [val_main_v341, val_main_cst_69]
  refine congrArg (Finset.univ.fold max _) (funext fun a => ?_)
  rw [val_main_v340_apply, ref_ovl x0 x1 x2 x4 x5 lab b g a H.unmasked, ref_pos H, mulf_eq]

theorem ref_norm : val_main_v348 (F := Ideal) x0 x1 x2 x3 x4 x5 (ix3 b g a) = (batch x0 x1 x2 x4 lab b).norm g a := by
  have u : val_main_v343 (F := Ideal) x0 x1 x2 x3 x4 x5 (ix3 b g a) =
      (top fun a => (batch x0 x1 x2 x4 lab b).ovl g a * (batch x0 x1 x2 x4 lab b).pos g a) := by
    pointwise [val_main_v343, val_main_v342]
    exact ref_widest H b g
  have d : val_main_v339 (F := Ideal) x0 x1 x2 x3 x4 x5 (ix3 b g 0) =
      (top fun a => (batch x0 x1 x2 x4 lab b).met g a * (batch x0 x1 x2 x4 lab b).pos g a) := by
    pointwise [val_main_v339]
    exact ref_most H b g
  have e : val_main_v345 (F := Ideal) (ix3 b g 0) = e9 := by
    pointwise [val_main_v345, val_main_cst_70]
  have v : val_main_v346 (F := Ideal) x0 x1 x2 x3 x4 x5 (ix3 b g 0) =
      (top fun a => (batch x0 x1 x2 x4 lab b).met g a * (batch x0 x1 x2 x4 lab b).pos g a) + e9 := by
    rw [val_main_v346_apply, d, e]
    rfl
  have w : val_main_v347 (F := Ideal) x0 x1 x2 x3 x4 x5 (ix3 b g a) =
      (top fun a => (batch x0 x1 x2 x4 lab b).met g a * (batch x0 x1 x2 x4 lab b).pos g a) + e9 := by
    pointwise [val_main_v347]
    exact v
  rw [val_main_v348_apply, val_main_v344_apply, val_main_v337_apply, u, w,
    ref_met x0 x1 x2 x3 x4 x5 lab b g a H.unmasked H.labelled H.good, ref_pos H, hostDiv_eq, mulf_eq, mulf_eq]
  rfl

theorem ref_scale : val_main_v349 (F := Ideal) x0 x1 x2 x3 x4 x5 (ix2 b a) = (batch x0 x1 x2 x4 lab b).scale a := by
  pointwise [val_main_v349, val_main_cst_71]
  exact congrArg (Finset.univ.fold max _) (funext fun g => ref_norm H b g a)

theorem ref_taken : val_main_v354 (F := Ideal) x0 x1 x2 x3 x4 x5 (ix2 b a) = (batch x0 x1 x2 x4 lab b).taken a := by
  have u : val_main_v353 (F := Ideal) (ix2 b a) = 0 := by
    pointwise [val_main_v353, val_main_cst_72]
  rw [val_main_v354_apply, u, ref_cnt H]
  rfl

theorem ref_scores : val_main_v352 (F := Ideal) x0 x1 x2 x3 x4 x5 (ix3 b a c) =
    (batch x0 x1 x2 x4 lab b).scores a c := by
  have u : val_main_v351 (F := Ideal) x0 x1 x2 x3 x4 x5 (ix3 b a c) = (batch x0 x1 x2 x4 lab b).scale a := by
    pointwise [val_main_v351, val_main_v350]
    exact ref_scale H b a
  have p : val_main_v333 (F := Ideal) x0 x1 x2 x3 x4 x5 (ix3 b a 0) = (batch x0 x1 x2 x4 lab b).cnt a := by
    pointwise [val_main_v333]
    exact ref_cnt H b a
  have q : val_main_v334 (F := Ideal) (ix3 b a 0) = 0 := by
    pointwise [val_main_v334, val_main_cst_66]
  have v : val_main_call21_v1 (F := Ideal) x0 x1 x2 x3 x4 x5 (ix3 b a c) =
      BitVec.ofBool (decide (0 < (batch x0 x1 x2 x4 lab b).cnt a)) := by
    pointwise [val_main_call21_v1]
    rw [val_main_v335_apply, p, q]
    rfl
  have w : val_main_call21_v2 (F := Ideal) (ix3 b a c) = 0 := by
    pointwise [val_main_call21_v2, val_main_call21_v0, val_main_cst_67]
    exact id_zero
  rw [val_main_v352_apply, val_main_v336_apply, u, v, w, ref_onehot H, mulf_eq]
  unfold Image.scores
  by_cases h : 0 < (batch x0 x1 x2 x4 lab b).cnt a
  · rw [decide_eq_true h, select_yes, if_pos h]
    rfl
  · rw [decide_eq_false h, select_no, if_neg h]

/-! ### The whole results -/

theorem ref_allBoxes : val_main_v331 (F := Ideal) x0 x1 x2 x3 x4 x5 = allBoxes (batch x0 x1 x2 x4 lab) := by
  funext i
  rw [eq_ix3 i]
  exact ref_boxes H _ _ _

theorem ref_allScores : val_main_v352 (F := Ideal) x0 x1 x2 x3 x4 x5 = allScores (batch x0 x1 x2 x4 lab) := by
  funext i
  rw [eq_ix3 i]
  exact ref_scores H _ _ _

theorem ref_allTaken : val_main_v354 (F := Ideal) x0 x1 x2 x3 x4 x5 = allTaken (batch x0 x1 x2 x4 lab) := by
  funext i
  rw [eq_ix2 i]
  exact ref_taken H _ _

end Cert.Assign

end
-- ==== Proof.Padded.lean ====
/- The precondition, read back: what it says of each argument. -/
module

public import proofs.«01_k».proof.Proof.RefCount
public import proofs.«01_k».proof.Proof.Gen.Pre_boxes_without_padding
public import Idealize.ShloMosaic.Lib.ReduceAll

@[expose] public section

set_option maxRecDepth 16384

noncomputable section

namespace Cert.Assign

open Idealize.ShloMosaic Cert.Pre_boxes_without_padding

/-- A conjunction that is one has both its sides one. -/
theorem both {p q : IVec S_ 1} (h : andi p q ix0 = 1#1) : p ix0 = 1#1 ∧ q ix0 = 1#1 := by
  have e : p ix0 &&& q ix0 = 1#1 := h
  revert e
  generalize p ix0 = x
  generalize q ix0 = y
  revert x y
  decide

/-- The bit of a proposition is one only when it holds. -/
theorem one_of_bit {p : Prop} [Decidable p] (h : BitVec.ofBool (decide p) = 1#1) : p := by
  by_contra hp
  rw [decide_eq_false hp] at h
  exact absurd h (by decide)

instance : Subsingleton S_.Idx := ⟨fun i j => funext fun k => k.elim0⟩

/-- A signed word from 0 up to 79 is a class. -/
theorem class_of_word {x : BitVec 32} (h : IntOp.cmpi .sge x 0#32 = 1#1) (h' : IntOp.cmpi .slt x 80#32 = 1#1) :
    x.toNat < 80 := by
  have a := IntOp.cmpi_sge.1 h
  have b := IntOp.cmpi_slt.1 h'
  rw [show (0#32 : BitVec 32).toInt = 0 by decide, BitVec.toInt_eq_toNat_cond] at a
  rw [show (80#32 : BitVec 32).toInt = 80 by decide, BitVec.toInt_eq_toNat_cond] at b
  have := x.isLt
  split at a <;> omega

/-- Arrays that meet the precondition have good images, are labelled and unmasked. -/
theorem given (x0 : Score → EReal) (x1 : Pred → EReal) (x2 : Anchor → EReal) (x3 : Label → BitVec 32) (x4 : True4 → EReal)
    (x5 : Label → EReal) (h : fn (F := Ideal) x0 x1 x2 x3 x4 x5 ix0 = 1#1) : ∃ lab, Given x0 x1 x2 x3 x4 x5 lab := by
  dsimp only [fn] at h
  obtain ⟨h, mask⟩ := both h
  obtain ⟨h, lab1⟩ := both h
  obtain ⟨h, lab0⟩ := both h
  obtain ⟨s, g⟩ := both h
  replace mask (b : Fin 16) (g : Fin 64) := Host.reduce_andi_all _ _ _ _ _ mask (ix3 b g 0)
  replace lab1 (b : Fin 16) (g : Fin 64) := Host.reduce_andi_all _ _ _ _ _ lab1 (ix3 b g 0)
  replace lab0 (b : Fin 16) (g : Fin 64) := Host.reduce_andi_all _ _ _ _ _ lab0 (ix3 b g 0)
  replace g (b : Fin 16) (g' : Fin 64) (k : Fin 4) := one_of_bit (Host.reduce_andi_all _ _ _ _ _ g (ix3 b g' k))
  replace s (b : Fin 16) (a : Fin 8400) (c : Fin 80) := Host.reduce_andi_all _ _ _ _ _ s (ix3 b a c)
  clear h
  pointwise at mask
  pointwise at lab0
  pointwise at lab1
  pointwise at s
  refine ⟨fun b g => ⟨(x3 (ix3 b g 0)).toNat, class_of_word (lab0 b g) (lab1 b g)⟩, ?_, ?_, ?_⟩
  · exact fun b => { gb := fun i k => lt_of_lt_of_eq (g b i k) word_top, sc := fun a c => one_of_bit (s b a c) }
  · exact fun b g => BitVec.eq_of_toNat_eq (by rw [BitVec.toNat_ofNat, Nat.mod_eq_of_lt (x3 (ix3 b g 0)).isLt])
  · exact fun b g => one_of_bit (mask b g)

end Cert.Assign

end
-- ==== Proof.Agree.lean ====
/- The two programs end with the same results: both runs are stated by the assignment of the batch. -/
module

public import proofs.«01_k».proof.Proof.KernelRun
public import proofs.«01_k».proof.Proof.RefAssign
public import proofs.«01_k».proof.Proof.Padded
public import proofs.«01_k».proof.Proof.Gen.ReferenceIdeal.Run

@[expose] public section

set_option maxRecDepth 16384

noncomputable section

namespace Cert.Assign

open Idealize.ShloMosaic Idealize.SL.Sem

section

open Cert.ReferenceIdeal

/-- The reference's run: the same three results. -/
theorem reference_run (m : (ℓ : Loc nD τ sig) → Buf (Elt Ideal) ℓ) (ρ : Dev nD → PrngReg)
    (lab : Dev nD → Fin 16 → Fin 64 → Fin 80)
    (H : ∀ c : Dev nD, Given (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (lab c)) :
    θ_run (defs (F := Ideal)) (onTc (τ := τ) (main (F := Ideal))) ⟨m, fun _ => 0, ρ⟩ (fun r => ∀ c : Dev nD,
      r.2.mem ((c.tc : Thread nD τ).loc main_v331)
        = allBoxes (batch (m ((c.tc : Thread nD τ).loc main_arg0)) (m ((c.tc : Thread nD τ).loc main_arg1))
          (m ((c.tc : Thread nD τ).loc main_arg2)) (m ((c.tc : Thread nD τ).loc main_arg4)) (lab c))
      ∧ r.2.mem ((c.tc : Thread nD τ).loc main_v352)
        = allScores (batch (m ((c.tc : Thread nD τ).loc main_arg0)) (m ((c.tc : Thread nD τ).loc main_arg1))
          (m ((c.tc : Thread nD τ).loc main_arg2)) (m ((c.tc : Thread nD τ).loc main_arg4)) (lab c))
      ∧ r.2.mem ((c.tc : Thread nD τ).loc main_v354)
        = allTaken (batch (m ((c.tc : Thread nD τ).loc main_arg0)) (m ((c.tc : Thread nD τ).loc main_arg1))
          (m ((c.tc : Thread nD τ).loc main_arg2)) (m ((c.tc : Thread nD τ).loc main_arg4)) (lab c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1.trans ((Read.val_main_v331_eq _).trans (ref_allBoxes (H c))),
      (h c).2.1.trans ((Read.val_main_v352_eq _).trans (ref_allScores (H c))),
      (h c).2.2.1.trans ((Read.val_main_v354_eq _).trans (ref_allTaken (H c))), (h c).2.2.2⟩)
    (Value.run (F := Ideal) m ρ)

end

end Cert.Assign

end
-- ==== Proof.Padding.lean ====
/- What the padding mask changes: the kernel does not read it, so that on boxes that are all padding the kernel takes an
   anchor and the reference takes none. -/
module

public import proofs.«01_k».proof.Proof.Agree

@[expose] public section

set_option maxRecDepth 16384

noncomputable section

namespace Cert.Assign

open Idealize.ShloMosaic Idealize.SL.Sem

/-- An anchor that is some box's candidate is taken. -/
theorem Image.taken_of_candidate (I : Image) {g : Fin 64} {a : Fin 8400} (h : I.pos0 g a = 1) : I.taken a = 1#1 := by
  have one : ∃ g, I.pos g a = 1 := by
    by_cases h' : 1 < I.cnt0 a
    · obtain ⟨p, hp⟩ := exists_rk (fun g => I.ovl g a) (r := 0) (by decide)
      exact ⟨p, by rw [Image.pos, if_pos h', if_pos hp]⟩
    · exact ⟨g, by rw [Image.pos, if_neg h', h]⟩
  obtain ⟨p, hp⟩ := one
  have pos : 0 < I.cnt a := lt_of_lt_of_le (hp ▸ zero_lt_one)
    (Finset.single_le_sum (fun g _ => I.pos_nonneg g a) (Finset.mem_univ p))
  rw [Image.taken, decide_eq_true pos]
  rfl

/-- True boxes from the corner (0, 0) to the corner (2, 2). -/
def square : True4 → EReal := fun i => if (i 2).val < 2 then 0 else 2

/-- Those boxes in every image, with scores, predicted boxes and anchors all 1. -/
def sample (b : Fin 16) : Image := batch (fun _ => 1) (fun _ => 1) (fun _ => 1) square (fun _ _ => 0) b

theorem sample_good (b : Fin 16) : (sample b).Good where
  gb g k := by
    change (if k.val < 2 then (0 : EReal) else 2) < ⊤
    split
    · exact EReal.zero_lt_top
    · exact EReal.coe_lt_top 2
  sc _ _ := zero_le_one

theorem e9_lt_one : e9 < 1 := by
  rw [← EReal.coe_one]
  simp [Ideal.ofBits, Ideal.ieee, -EReal.coe_mul, -EReal.coe_one]; norm_num

theorem sample_taken (b : Fin 16) : (sample b).taken 0 = 1#1 := by
  refine Image.taken_of_candidate (g := 0) _ ?_
  have r : rk ((sample b).met 0) 0 = 0 := Finset.card_eq_zero.mpr (Finset.filter_eq_empty_iff.mpr fun j _ h =>
    h.elim (fun h => lt_irrefl _ (show (sample b).met 0 j < (sample b).met 0 j from h)) fun h => Nat.not_lt_zero _ h.2)
  have d : (2 : EReal) - 1 = 1 := by
    rw [show (2 : EReal) = ((2 : ℝ) : EReal) from rfl, ← EReal.coe_one, ← EReal.coe_sub]
    norm_num
  have i : (sample b).inside 0 0 := by
    change e9 < min (min ((1 : EReal) - 0) (1 - 0)) (min (2 - 1) (2 - 1))
    rw [d, sub_zero, min_self, min_self]
    exact e9_lt_one
  rw [Image.pos0, if_pos ⟨r ▸ by decide, i⟩]

section

open Cert.KernelIdeal

/-- The kernel takes anchor 0 of every sample image, whatever the mask holds. -/
theorem kernel_takes (m : (ℓ : Loc nD τ sig) → Buf (Elt Ideal) ℓ) (ρ : Dev nD → PrngReg)
    (h0 : ∀ c : Dev nD, m ((c.tc : Thread nD τ).loc main_arg0) = fun _ => (1 : EReal))
    (h1 : ∀ c : Dev nD, m ((c.tc : Thread nD τ).loc main_arg1) = fun _ => (1 : EReal))
    (h2 : ∀ c : Dev nD, m ((c.tc : Thread nD τ).loc main_arg2) = fun _ => (1 : EReal))
    (h3 : ∀ c : Dev nD, m ((c.tc : Thread nD τ).loc main_arg3) = fun _ => 0#32)
    (h4 : ∀ c : Dev nD, m ((c.tc : Thread nD τ).loc main_arg4) = square) :
    θ_run (defs (F := Ideal)) (onTc (τ := τ) (main (F := Ideal))) ⟨m, fun _ => 0, ρ⟩ (fun r => ∀ (c : Dev nD) (b : Fin 16),
      r.2.mem ((c.tc : Thread nD τ).loc main_v8) (ix2 b 0) = 1#1) := by
  have e : ∀ c b, kbatch m c (fun _ _ => 0) b = sample b := fun c b => by
    unfold kbatch sample
    rw [h0 c, h1 c, h2 c, h4 c]
    rfl
  refine (θ_run defs _ _).mono (fun r h c b => ?_) (kernel_run m ρ (fun _ _ _ => 0)
    (fun c b => e c b ▸ sample_good b) (fun c b g => congrFun (h3 c) _))
  rw [(h c).2.2.1]
  change (kbatch m c (fun _ _ => 0) b).taken 0 = 1#1
  rw [e]
  exact sample_taken b

end

section

open Cert.ReferenceIdeal Cert.ReferenceIdeal.Read

variable (x0 : Score → EReal) (x1 : Pred → EReal) (x2 : Anchor → EReal) (x3 : Label → BitVec 32) (x4 : True4 → EReal)
  (x5 : Label → EReal) (h : ∀ i, x5 i = 0) (b : Fin 16) (g : Fin 64) (a : Fin 8400)
include h

theorem padded_pos0 : val_main_v310 (F := Ideal) x0 x1 x2 x3 x4 x5 (ix3 b g a) = 0 := by
  rw [val_main_v310_apply, val_main_v309_apply, h, mulf_eq, mul_zero]

theorem padded_cnt0 : val_main_v311 (F := Ideal) x0 x1 x2 x3 x4 x5 (ix2 b a) = 0 := by
  pointwise [val_main_v311, val_main_cst_58]
  exact Finset.sum_eq_zero fun g _ => padded_pos0 x0 x1 x2 x3 x4 x5 h b g a

theorem padded_pos : val_main_v324 (F := Ideal) x0 x1 x2 x3 x4 x5 (ix3 b g a) = 0 := by
  have u : val_main_v321 (F := Ideal) x0 x1 x2 x3 x4 x5 (ix3 b 0 a) = 0 := by
    pointwise [val_main_v321]
    exact padded_cnt0 x0 x1 x2 x3 x4 x5 h b a
  have v : val_main_v322 (F := Ideal) (ix3 b 0 a) = 1 := by
    pointwise [val_main_v322, val_main_cst_61]
  have w : val_main_call16_v0 (F := Ideal) x0 x1 x2 x3 x4 x5 (ix3 b g a) = BitVec.ofBool (decide ((1 : EReal) < 0)) := by
    pointwise [val_main_call16_v0]
    rw [val_main_v323_apply, u, v]
    rfl
  rw [val_main_v324_apply, w, decide_eq_false (not_lt.mpr zero_le_one), select_no]
  exact padded_pos0 x0 x1 x2 x3 x4 x5 h b g a

theorem padded_taken : val_main_v354 (F := Ideal) x0 x1 x2 x3 x4 x5 (ix2 b a) = 0#1 := by
  have u : val_main_v325 (F := Ideal) x0 x1 x2 x3 x4 x5 (ix2 b a) = 0 := by
    pointwise [val_main_v325, val_main_cst_62]
    exact Finset.sum_eq_zero fun g _ => padded_pos x0 x1 x2 x3 x4 x5 h b g a
  have v : val_main_v353 (F := Ideal) (ix2 b a) = 0 := by
    pointwise [val_main_v353, val_main_cst_72]
  rw [val_main_v354_apply, u, v]
  change BitVec.ofBool (decide ((0 : EReal) < 0)) = 0#1
  rw [decide_eq_false (lt_irrefl _)]
  rfl

omit h in
/-- The reference takes no anchor where every box is padding. -/
theorem reference_takes_none (m : (ℓ : Loc nD τ sig) → Buf (Elt Ideal) ℓ) (ρ : Dev nD → PrngReg)
    (h5 : ∀ c : Dev nD, m ((c.tc : Thread nD τ).loc main_arg5) = fun _ => (0 : EReal)) :
    θ_run (defs (F := Ideal)) (onTc (τ := τ) (main (F := Ideal))) ⟨m, fun _ => 0, ρ⟩ (fun r =>
      ∀ (c : Dev nD) (b : Fin 16) (a : Fin 8400), r.2.mem ((c.tc : Thread nD τ).loc main_v354) (ix2 b a) = 0#1) := by
  refine (θ_run defs _ _).mono (fun r h c b a => ?_) (Value.run (F := Ideal) m ρ)
  rw [(h c).2.2.1.trans (Read.val_main_v354_eq _)]
  exact padded_taken _ _ _ _ _ _ (fun i => congrFun (h5 c) i) b a

end

end Cert.Assign

end
-- ==== Proof.lean ====
module

public import proofs.«01_k».proof.Proof.Gen.Pre_boxes_without_padding
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.Padding
public import Idealize.ShloMosaic.Adequacy
public import Idealize.ShloMosaic.Init

@[expose] public section

noncomputable section

namespace Cert.Proof

open Idealize.ShloMosaic Idealize.SL.Sem

/-- The reference leaves its arguments as they were, and every semaphore at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- Both programs end with the assignment of the batch. -/
theorem agree : Cert.algebraic_KernelIdeal_ReferenceIdeal_pre_boxes_without_padding
    (hKernelIdeal := Cert.KernelIdeal.Gen.facts) (hReferenceIdeal := Cert.ReferenceIdeal.Gen.facts)
    (hPre_boxes_without_padding := Cert.Pre_boxes_without_padding.Gen.facts) := by
  intro m g m' g' hpre hsame
  have hg := fun c => Cert.Assign.given _ _ _ _ _ _ (congrFun (hpre c) ix0)
  choose lab H using hg
  refine ⟨_, _, _, Cert.Assign.kernel_run m g lab (fun c => (H c).good) (fun c => (H c).labelled), ?_⟩
  refine (θ_run Cert.ReferenceIdeal.defs _ _).mono ?_ (Cert.Assign.reference_run m' g' lab fun c => ?_)
  · intro r h c
    obtain ⟨e0, e1, e2, e3, e4, e5⟩ := hsame c
    have k := h c
    rw [e0, e1, e2, e4] at k
    refine ⟨k.1, k.2.1, k.2.2.1, (h c).2.2.2⟩
  · obtain ⟨e0, e1, e2, e3, e4, e5⟩ := hsame c
    rw [e0, e1, e2, e3, e4, e5]
    exact H c

theorem claim : Cert.Claim := ⟨Cert.Kernel.Gen.facts, Cert.KernelIdeal.Gen.facts, Cert.ReferenceIdeal.Gen.facts,
  Cert.Pre_boxes_without_padding.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial,
  agree⟩

end Cert.Proof

end
